-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "mask" .f32 0xDA0E1BCA#32 ⊥
  ∧ IdealRules.named_const.Statement Cert.KernelIdeal.κ "two_log2e" .f32 0x4038AA3B#32 ((2 * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_arg0)) (v2 : (c : Dev Cert.KernelIdeal.nD) → Buf (Elt Ideal) ((c.tc : Thread Cert.KernelIdeal.nD Cert.KernelIdeal.τ).loc Cert.KernelIdeal.main_v2)) (v3 : (c : Dev Cert.KernelIdeal.nD) → Buf (Elt Ideal) ((c.tc : Thread Cert.KernelIdeal.nD Cert.KernelIdeal.τ).loc Cert.KernelIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_arg0) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_arg0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_v73) = v2 c
          ∧ r.2.mem ((c.tc : Thread Cert.ReferenceIdeal.nD Cert.ReferenceIdeal.τ).loc Cert.ReferenceIdeal.main_arg0) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x5x384x384 : Shape := ⟨4, ![4, 5, 384, 384]⟩
abbrev S_ : Shape := ⟨0, ![]⟩

class Facts : Prop where
  bcast_S_S4x5x384x384 : S_.BroadcastsInDim S4x5x384x384 (![] : Fin 0 → Fin S4x5x384x384.rank)
  reducesTo_S4x5x384x384_S_d0_1_2_3 : S4x5x384x384.ReducesTo [0, 1, 2, 3] S_
  h_S_ : 0 < S_.numel

variable [Facts]

def fn {F : FTy → Type} [FloatOps F] (main_arg0 : FVec F S4x5x384x384 .f32) : IVec S_ 1 :=
  let main_v0 : FVec F S4x5x384x384 .f32 := Host.absf main_arg0
  let main_cst : FVec F S_ .f32 := constant S_ .f32 0x7F800000#32
  let main_v1 : FVec F S4x5x384x384 .f32 := broadcastInDim S4x5x384x384 ![] bcast_S_S4x5x384x384 main_cst
  let main_v2 : IVec S4x5x384x384 1 := cmpf .olt main_v0 main_v1
  let main_c : IVec S_ 1 := constantI S_ 1 1#1
  let main_v3 : IVec S_ 1 := (fun x v => Host.reduce IntOp.andi x v reducesTo_S4x5x384x384_S_d0_1_2_3 h_S_) main_v2 main_c
  main_v3
-- ==== Kernel.lean ====
abbrev S4x5x384x384 : Shape := ⟨4, ![4, 5, 384, 384]⟩
abbrev S3x384x16 : Shape := ⟨3, ![3, 384, 16]⟩
abbrev S3x16x384 : Shape := ⟨3, ![3, 16, 384]⟩
abbrev S3x1x384 : Shape := ⟨3, ![3, 1, 384]⟩
abbrev S4x20 : Shape := ⟨2, ![4, 20]⟩
abbrev S20x4 : Shape := ⟨2, ![20, 4]⟩
abbrev S160x20 : Shape := ⟨2, ![160, 20]⟩
abbrev S32x4 : Shape := ⟨2, ![32, 4]⟩
abbrev S4x9x384x384 : Shape := ⟨4, ![4, 9, 384, 384]⟩
abbrev S256x20 : Shape := ⟨2, ![256, 20]⟩
abbrev S4x5x192x384 : Shape := ⟨4, ![4, 5, 192, 384]⟩
abbrev S4x9x192x384 : Shape := ⟨4, ![4, 9, 192, 384]⟩
abbrev S256x4 : Shape := ⟨2, ![256, 4]⟩
abbrev S4x5x24x384 : Shape := ⟨4, ![4, 5, 24, 384]⟩
abbrev S20x24x384 : Shape := ⟨3, ![20, 24, 384]⟩
abbrev S20x3x8x384 : Shape := ⟨4, ![20, 3, 8, 384]⟩
abbrev S20x8x384 : Shape := ⟨3, ![20, 8, 384]⟩
abbrev S160x384 : Shape := ⟨2, ![160, 384]⟩
abbrev S1x384x16 : Shape := ⟨3, ![1, 384, 16]⟩
abbrev S384x16 : Shape := ⟨2, ![384, 16]⟩
abbrev S16x160 : Shape := ⟨2, ![16, 160]⟩
abbrev S16x20 : Shape := ⟨2, ![16, 20]⟩
abbrev S4x384 : Shape := ⟨2, ![4, 384]⟩
abbrev S16x4 : Shape := ⟨2, ![16, 4]⟩
abbrev S16x24 : Shape := ⟨2, ![16, 24]⟩
abbrev S1x16x384 : Shape := ⟨3, ![1, 16, 384]⟩
abbrev S16x384 : Shape := ⟨2, ![16, 384]⟩
abbrev S24x384 : Shape := ⟨2, ![24, 384]⟩
abbrev S20x384 : Shape := ⟨2, ![20, 384]⟩
abbrev S4x5x1x384 : Shape := ⟨4, ![4, 5, 1, 384]⟩
abbrev S1x1x384 : Shape := ⟨3, ![1, 1, 384]⟩
abbrev S1x384 : Shape := ⟨2, ![1, 384]⟩
abbrev S4x24x384 : Shape := ⟨3, ![4, 24, 384]⟩
abbrev S4x1x384 : Shape := ⟨3, ![4, 1, 384]⟩
abbrev S4x1x24x384 : Shape := ⟨4, ![4, 1, 24, 384]⟩
abbrev S16x32 : Shape := ⟨2, ![16, 32]⟩
abbrev S4x3x8x384 : Shape := ⟨4, ![4, 3, 8, 384]⟩
abbrev S4x8x384 : Shape := ⟨3, ![4, 8, 384]⟩
abbrev S32x384 : Shape := ⟨2, ![32, 384]⟩
abbrev S128x20 : Shape := ⟨2, ![128, 20]⟩
abbrev S128x4 : Shape := ⟨2, ![128, 4]⟩
abbrev S20x256 : Shape := ⟨2, ![20, 256]⟩
abbrev S4x5x256 : Shape := ⟨3, ![4, 5, 256]⟩

abbrev nBuf : Space → Nat
  | .hbm => 12
  | .vmem => 15
  | .smem => 0
  | _ => 0

abbrev bufTy : (tb : Table) → Fin (tcTables nBuf tb) → BufTy
  | .hbm, ⟨0, _⟩ => ⟨S4x5x384x384, .f32⟩
  | .hbm, ⟨1, _⟩ => ⟨S3x384x16, .f32⟩
  | .hbm, ⟨2, _⟩ => ⟨S3x16x384, .f32⟩
  | .hbm, ⟨3, _⟩ => ⟨S3x1x384, .f32⟩
  | .hbm, ⟨4, _⟩ => ⟨S4x20, .f32⟩
  | .hbm, ⟨5, _⟩ => ⟨S20x4, .f32⟩
  | .hbm, ⟨6, _⟩ => ⟨S160x20, .f32⟩
  | .hbm, ⟨7, _⟩ => ⟨S32x4, .f32⟩
  | .hbm, ⟨8, _⟩ => ⟨S4x9x384x384, .f32⟩
  | .hbm, ⟨9, _⟩ => ⟨S256x20, .f32⟩
  | .hbm, ⟨10, _⟩ => ⟨S20x256, .f32⟩
  | .hbm, ⟨11, _⟩ => ⟨S4x5x256, .f32⟩
  | .local _ .vmem, ⟨0, _⟩ => ⟨S4x5x192x384, .f32⟩
  | .local _ .vmem, ⟨1, _⟩ => ⟨S4x5x192x384, .f32⟩
  | .local _ .vmem, ⟨2, _⟩ => ⟨S3x384x16, .f32⟩
  | .local _ .vmem, ⟨3, _⟩ => ⟨S3x16x384, .f32⟩
  | .local _ .vmem, ⟨4, _⟩ => ⟨S3x1x384, .f32⟩
  | .local _ .vmem, ⟨5, _⟩ => ⟨S4x20, .f32⟩
  | .local _ .vmem, ⟨6, _⟩ => ⟨S20x4, .f32⟩
  | .local _ .vmem, ⟨7, _⟩ => ⟨S160x20, .f32⟩
  | .local _ .vmem, ⟨8, _⟩ => ⟨S32x4, .f32⟩
  | .local _ .vmem, ⟨9, _⟩ => ⟨S4x9x192x384, .f32⟩
  | .local _ .vmem, ⟨10, _⟩ => ⟨S4x9x192x384, .f32⟩
  | .local _ .vmem, ⟨11, _⟩ => ⟨S256x20, .f32⟩
  | .local _ .vmem, ⟨12, _⟩ => ⟨S256x20, .f32⟩
  | .local _ .vmem, ⟨13, _⟩ => ⟨S256x20, .f32⟩
  | .local _ .vmem, ⟨14, _⟩ => ⟨S256x4, .f32⟩
  | _, _ => ⟨S4x5x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_cst_1 : Ref sig .tc := ⟨.hbm, 3, rfl⟩
abbrev main_cst_2 : Ref sig .tc := ⟨.hbm, 4, rfl⟩
abbrev main_cst_3 : Ref sig .tc := ⟨.hbm, 5, rfl⟩
abbrev main_cst_4 : Ref sig .tc := ⟨.hbm, 6, rfl⟩
abbrev main_cst_5 : Ref sig .tc := ⟨.hbm, 7, rfl⟩
abbrev main_v0_0 : Ref sig .tc := ⟨.hbm, 8, rfl⟩
abbrev main_v0_1 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11

abbrev nD : Nat := 1
abbrev τ : Topo := Topo.v7x

variable {F : FTy → Type} [FloatOps F]

abbrev grid0 : Pipeline.Grid := ⟨2, ![6, 2], ![false, false]⟩

def k0_cond2 (i : grid0.Coords) : BitVec 1 :=
  let arg0 : BitVec 32 := BitVec.ofNat 32 (i 0).val
  let c0_i32_5 : BitVec 32 := 0#32
  let v6 : BitVec 1 := Scalar.cmpi .eq arg0 c0_i32_5
  let v7 : BitVec 32 := Scalar.extui v6
  let c0_i32_6 : BitVec 32 := 0#32
  let v8 : BitVec 1 := Scalar.cmpi .ne v7 c0_i32_6
  v8

def k0_off1 (i : grid0.Coords) (c0_i32_10 : BitVec 32) : Fin 2 → Nat :=
  let arg1 : BitVec 32 := BitVec.ofNat 32 (i 1).val
  let c8_i32 : BitVec 32 := 8#32
  let v15 : BitVec 32 := Scalar.muli arg1 c8_i32
  let v16 : BitVec 32 := Scalar.addi v15 c0_i32_10
  let c16_i32 : BitVec 32 := 16#32
  let v27 : BitVec 32 := Scalar.muli v16 c16_i32
  let v28 : Index := Scalar.indexCast v27
  let c0_17 : Index := 0#32
  ![v28.toNat, 0]
def k0_off2 (i : grid0.Coords) (c0_i32_10 : BitVec 32) : Fin 2 → Nat :=
  let arg1 : BitVec 32 := BitVec.ofNat 32 (i 1).val
  let c8_i32 : BitVec 32 := 8#32
  let v15 : BitVec 32 := Scalar.muli arg1 c8_i32
  let v16 : BitVec 32 := Scalar.addi v15 c0_i32_10
  let c16_i32_20 : BitVec 32 := 16#32
  let v36 : BitVec 32 := Scalar.muli v16 c16_i32_20
  let v37 : Index := Scalar.indexCast v36
  let c0_21 : Index := 0#32
  ![v37.toNat, 0]
def k0_cond3 (i : grid0.Coords) : BitVec 1 :=
  let arg0 : BitVec 32 := BitVec.ofNat 32 (i 0).val
  let c0_i32_7 : BitVec 32 := 0#32
  let v9 : BitVec 1 := Scalar.cmpi .sgt arg0 c0_i32_7
  let v10 : BitVec 32 := Scalar.extui v9
  let c0_i32_8 : BitVec 32 := 0#32
  let v11 : BitVec 1 := Scalar.cmpi .ne v10 c0_i32_8
  v11

def k0_off3 (i : grid0.Coords) (c0_i32_10 : BitVec 32) : Fin 2 → Nat :=
  let c15_i32 : BitVec 32 := 15#32
  let c0_i32_14 : BitVec 32 := 0#32
  let arg1 : BitVec 32 := BitVec.ofNat 32 (i 1).val
  let c8_i32 : BitVec 32 := 8#32
  let v15 : BitVec 32 := Scalar.muli arg1 c8_i32
  let v16 : BitVec 32 := Scalar.addi v15 c0_i32_10
  let c1_i32_11 : BitVec 32 := 1#32
  let v17 : BitVec 32 := Scalar.subi v16 c1_i32_11
  let v22 : BitVec 32 := Scalar.maxsi c0_i32_14 v17
  let v23 : BitVec 32 := Scalar.minsi c15_i32 v22
  let c16_i32_15 : BitVec 32 := 16#32
  let v24 : BitVec 32 := Scalar.muli v23 c16_i32_15
  let v25 : Index := Scalar.indexCast v24
  let c0_16 : Index := 0#32
  ![v25.toNat, 0]
def k0_off4 (i : grid0.Coords) : Fin 2 → Nat :=
  let arg1 : BitVec 32 := BitVec.ofNat 32 (i 1).val
  let c8_i32 : BitVec 32 := 8#32
  let v15 : BitVec 32 := Scalar.muli arg1 c8_i32
  let c16_i32_1492 : BitVec 32 := 16#32
  let v3096 : BitVec 32 := Scalar.muli v15 c16_i32_1492
  let v3097 : Index := Scalar.indexCast v3096
  let c0_1493 : Index := 0#32
  ![v3097.toNat, 0]
def k0_off5 (i : grid0.Coords) : Fin 2 → Nat :=
  let arg1 : BitVec 32 := BitVec.ofNat 32 (i 1).val
  let c8_i32 : BitVec 32 := 8#32
  let v15 : BitVec 32 := Scalar.muli arg1 c8_i32
  let c16_i32_1495 : BitVec 32 := 16#32
  let v3104 : BitVec 32 := Scalar.muli v15 c16_i32_1495
  let v3105 : Index := Scalar.indexCast v3104
  let c0_1496 : Index := 0#32
  ![v3105.toNat, 0]
def k0_off6 (i : grid0.Coords) : Fin 2 → Nat :=
  let c15_i32_1500 : BitVec 32 := 15#32
  let c0_i32_1499 : BitVec 32 := 0#32
  let arg1 : BitVec 32 := BitVec.ofNat 32 (i 1).val
  let c8_i32 : BitVec 32 := 8#32
  let v15 : BitVec 32 := Scalar.muli arg1 c8_i32
  let c1_i32_1498 : BitVec 32 := 1#32
  let v3112 : BitVec 32 := Scalar.subi v15 c1_i32_1498
  let v3113 : BitVec 32 := Scalar.maxsi c0_i32_1499 v3112
  let v3114 : BitVec 32 := Scalar.minsi c15_i32_1500 v3113
  let c16_i32_1501 : BitVec 32 := 16#32
  let v3115 : BitVec 32 := Scalar.muli v3114 c16_i32_1501
  let v3116 : Index := Scalar.indexCast v3115
  let c0_1502 : Index := 0#32
  ![v3116.toNat, 0]
def k0_off7 (i : grid0.Coords) : Fin 2 → Nat :=
  let c15_i32_1500 : BitVec 32 := 15#32
  let c0_i32_1499 : BitVec 32 := 0#32
  let arg1 : BitVec 32 := BitVec.ofNat 32 (i 1).val
  let c8_i32 : BitVec 32 := 8#32
  let v15 : BitVec 32 := Scalar.muli arg1 c8_i32
  let c1_i32_1498 : BitVec 32 := 1#32
  let v3112 : BitVec 32 := Scalar.subi v15 c1_i32_1498
  let v3113 : BitVec 32 := Scalar.maxsi c0_i32_1499 v3112
  let v3114 : BitVec 32 := Scalar.minsi c15_i32_1500 v3113
  let c16_i32_1504 : BitVec 32 := 16#32
  let v3123 : BitVec 32 := Scalar.muli v3114 c16_i32_1504
  let v3124 : Index := Scalar.indexCast v3123
  let c0_1505 : Index := 0#32
  ![v3124.toNat, 0]
def k0_off8 (i : grid0.Coords) : Fin 2 → Nat :=
  let c15_i32_1509 : BitVec 32 := 15#32
  let c0_i32_1508 : BitVec 32 := 0#32
  let arg1 : BitVec 32 := BitVec.ofNat 32 (i 1).val
  let c8_i32 : BitVec 32 := 8#32
  let v15 : BitVec 32 := Scalar.muli arg1 c8_i32
  let c8_i32_1507 : BitVec 32 := 8#32
  let v3131 : BitVec 32 := Scalar.addi v15 c8_i32_1507
  let v3132 : BitVec 32 := Scalar.maxsi c0_i32_1508 v3131
  let v3133 : BitVec 32 := Scalar.minsi c15_i32_1509 v3132
  let c16_i32_1510 : BitVec 32 := 16#32
  let v3134 : BitVec 32 := Scalar.muli v3133 c16_i32_1510
  let v3135 : Index := Scalar.indexCast v3134
  let c0_1511 : Index := 0#32
  ![v3135.toNat, 0]
def k0_off9 (i : grid0.Coords) : Fin 2 → Nat :=
  let c15_i32_1509 : BitVec 32 := 15#32
  let c0_i32_1508 : BitVec 32 := 0#32
  let arg1 : BitVec 32 := BitVec.ofNat 32 (i 1).val
  let c8_i32 : BitVec 32 := 8#32
  let v15 : BitVec 32 := Scalar.muli arg1 c8_i32
  let c8_i32_1507 : BitVec 32 := 8#32
  let v3131 : BitVec 32 := Scalar.addi v15 c8_i32_1507
  let v3132 : BitVec 32 := Scalar.maxsi c0_i32_1508 v3131
  let v3133 : BitVec 32 := Scalar.minsi c15_i32_1509 v3132
  let c16_i32_1513 : BitVec 32 := 16#32
  let v3142 : BitVec 32 := Scalar.muli v3133 c16_i32_1513
  let v3143 : Index := Scalar.indexCast v3142
  let c0_1514 : Index := 0#32
  ![v3143.toNat, 0]
def k0_cond4 (i : grid0.Coords) : BitVec 1 :=
  let arg0 : BitVec 32 := BitVec.ofNat 32 (i 0).val
  let c5_i32_480 : BitVec 32 := 5#32
  let v853 : BitVec 1 := Scalar.cmpi .eq arg0 c5_i32_480
  let v854 : BitVec 32 := Scalar.extui v853
  let c0_i32_481 : BitVec 32 := 0#32
  let v855 : BitVec 1 := Scalar.cmpi .ne v854 c0_i32_481
  v855

def k0_cond5 (i : grid0.Coords) : BitVec 1 :=
  let arg0 : BitVec 32 := BitVec.ofNat 32 (i 0).val
  let c5_i32_608 : BitVec 32 := 5#32
  let v1143 : BitVec 1 := Scalar.cmpi .eq arg0 c5_i32_608
  let v1144 : BitVec 32 := Scalar.extui v1143
  let c0_i32_609 : BitVec 32 := 0#32
  let v1145 : BitVec 1 := Scalar.cmpi .ne v1144 c0_i32_609
  v1145

def k0_cond6 (i : grid0.Coords) : BitVec 1 :=
  let arg0 : BitVec 32 := BitVec.ofNat 32 (i 0).val
  let c5_i32_736 : BitVec 32 := 5#32
  let v1437 : BitVec 1 := Scalar.cmpi .eq arg0 c5_i32_736
  let v1438 : BitVec 32 := Scalar.extui v1437
  let c0_i32_737 : BitVec 32 := 0#32
  let v1439 : BitVec 1 := Scalar.cmpi .ne v1438 c0_i32_737
  v1439

def k0_cond7 (i : grid0.Coords) : BitVec 1 :=
  let arg0 : BitVec 32 := BitVec.ofNat 32 (i 0).val
  let c5_i32_864 : BitVec 32 := 5#32
  let v1731 : BitVec 1 := Scalar.cmpi .eq arg0 c5_i32_864
  let v1732 : BitVec 32 := Scalar.extui v1731
  let c0_i32_865 : BitVec 32 := 0#32
  let v1733 : BitVec 1 := Scalar.cmpi .ne v1732 c0_i32_865
  v1733

def k0_cond8 (i : grid0.Coords) : BitVec 1 :=
  let arg0 : BitVec 32 := BitVec.ofNat 32 (i 0).val
  let c5_i32_992 : BitVec 32 := 5#32
  let v2025 : BitVec 1 := Scalar.cmpi .eq arg0 c5_i32_992
  let v2026 : BitVec 32 := Scalar.extui v2025
  let c0_i32_993 : BitVec 32 := 0#32
  let v2027 : BitVec 1 := Scalar.cmpi .ne v2026 c0_i32_993
  v2027

def k0_cond9 (i : grid0.Coords) : BitVec 1 :=
  let arg0 : BitVec 32 := BitVec.ofNat 32 (i 0).val
  let c5_i32_1120 : BitVec 32 := 5#32
  let v2319 : BitVec 1 := Scalar.cmpi .eq arg0 c5_i32_1120
  let v2320 : BitVec 32 := Scalar.extui v2319
  let c0_i32_1121 : BitVec 32 := 0#32
  let v2321 : BitVec 1 := Scalar.cmpi .ne v2320 c0_i32_1121
  v2321

def k0_cond10 (i : grid0.Coords) : BitVec 1 :=
  let arg0 : BitVec 32 := BitVec.ofNat 32 (i 0).val
  let c5_i32_1248 : BitVec 32 := 5#32
  let v2613 : BitVec 1 := Scalar.cmpi .eq arg0 c5_i32_1248
  let v2614 : BitVec 32 := Scalar.extui v2613
  let c0_i32_1249 : BitVec 32 := 0#32
  let v2615 : BitVec 1 := Scalar.cmpi .ne v2614 c0_i32_1249
  v2615

def k0_cond11 (i : grid0.Coords) : BitVec 1 :=
  let arg0 : BitVec 32 := BitVec.ofNat 32 (i 0).val
  let c5_i32_1376 : BitVec 32 := 5#32
  let v2907 : BitVec 1 := Scalar.cmpi .eq arg0 c5_i32_1376
  let v2908 : BitVec 32 := Scalar.extui v2907
  let c0_i32_1377 : BitVec 32 := 0#32
  let v2909 : BitVec 1 := Scalar.cmpi .ne v2908 c0_i32_1377
  v2909

def k0_cond12 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_9 : BitVec 32 := 0#32
  let v14 : BitVec 1 := Scalar.cmpi .ne v13 c0_i32_9
  v14

def k0_cond13 (i : grid0.Coords) : BitVec 1 :=
  let arg0 : BitVec 32 := BitVec.ofNat 32 (i 0).val
  let c5_i32 : BitVec 32 := 5#32
  let v37 : BitVec 1 := Scalar.cmpi .eq arg0 c5_i32
  let v38 : BitVec 32 := Scalar.extui v37
  let c0_i32_27 : BitVec 32 := 0#32
  let v39 : BitVec 1 := Scalar.cmpi .ne v38 c0_i32_27
  v39

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 1 := Scalar.cmpi .eq arg0 c5_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v1.toNat, c0_i32_2.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x5x192x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S3x384x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3x16x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S20x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S160x20 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S32x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S4x9x192x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S256x20 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== KernelIdeal.lean ====
variable {F : FTy → Type} [FloatOps F] [Named F]
def κ : String → Option EReal := fun
  | "log2e" => some (((Real.log 2)⁻¹ : ℝ) : EReal)
  | "mask" => some ⊥
  | "two_log2e" => some ((2 * (Real.log 2)⁻¹ : ℝ) : EReal)
  | _ => none
-- ==== ReferenceIdeal.lean ====
abbrev S4x5x384x384 : Shape := ⟨4, ![4, 5, 384, 384]⟩
abbrev S3 : Shape := ⟨1, ![3]⟩
abbrev S_ : Shape := ⟨0, ![]⟩
abbrev S3x1 : Shape := ⟨2, ![3, 1]⟩
abbrev S384 : Shape := ⟨1, ![384]⟩
abbrev S1x384 : Shape := ⟨2, ![1, 384]⟩
abbrev S3x384 : Shape := ⟨2, ![3, 384]⟩
abbrev S3x1x384x1 : Shape := ⟨4, ![3, 1, 384, 1]⟩
abbrev S1x3x1x384 : Shape := ⟨4, ![1, 3, 1, 384]⟩
abbrev S3x3x384x384 : Shape := ⟨4, ![3, 3, 384, 384]⟩
abbrev S9x147456 : Shape := ⟨2, ![9, 147456]⟩
abbrev S9x147456x1 : Shape := ⟨3, ![9, 147456, 1]⟩
abbrev S9x147456x4 : Shape := ⟨3, ![9, 147456, 4]⟩
abbrev S4x5x147456 : Shape := ⟨3, ![4, 5, 147456]⟩
abbrev S147456x4x5 : Shape := ⟨3, ![147456, 4, 5]⟩
abbrev S1x147456 : Shape := ⟨2, ![1, 147456]⟩
abbrev S147456 : Shape := ⟨1, ![147456]⟩
abbrev S256 : Shape := ⟨1, ![256]⟩
abbrev S147456x1 : Shape := ⟨2, ![147456, 1]⟩
abbrev S256x4x5 : Shape := ⟨3, ![256, 4, 5]⟩
abbrev S256x1x1 : Shape := ⟨3, ![256, 1, 1]⟩
abbrev S9x147456x4x5 : Shape := ⟨4, ![9, 147456, 4, 5]⟩
abbrev S1x147456x4x5 : Shape := ⟨4, ![1, 147456, 4, 5]⟩
abbrev S147456x4 : Shape := ⟨2, ![147456, 4]⟩
abbrev S1x147456x4 : Shape := ⟨3, ![1, 147456, 4]⟩
abbrev S9x147456x4x1 : Shape := ⟨4, ![9, 147456, 4, 1]⟩
abbrev S1327104x4x5 : Shape := ⟨3, ![1327104, 4, 5]⟩
abbrev S1327104 : Shape := ⟨1, ![1327104]⟩
abbrev S1327104x1 : Shape := ⟨2, ![1327104, 1]⟩
abbrev S1327104x4 : Shape := ⟨2, ![1327104, 4]⟩
abbrev S256x4 : Shape := ⟨2, ![256, 4]⟩
abbrev S256x4x1 : Shape := ⟨3, ![256, 4, 1]⟩
abbrev S4x9x147456 : Shape := ⟨3, ![4, 9, 147456]⟩
abbrev S4x9x384x384 : Shape := ⟨4, ![4, 9, 384, 384]⟩
abbrev S4x5x256 : Shape := ⟨3, ![4, 5, 256]⟩

abbrev nBuf : Space → Nat
  | .hbm => 155
  | .vmem => 0
  | .smem => 0
  | _ => 0

abbrev hbmTy0_0 (i : Nat) : BufTy := match i % 128 with
  | 0 => ⟨S4x5x384x384, .f32⟩
  | 1 => ⟨S3, .i32⟩
  | 2 => ⟨S_, .i32⟩
  | 3 => ⟨S3, .i32⟩
  | 4 => ⟨S3, .i32⟩
  | 5 => ⟨S3x1, .i32⟩
  | 6 => ⟨S384, .i32⟩
  | 7 => ⟨S_, .i32⟩
  | 8 => ⟨S384, .i32⟩
  | 9 => ⟨S384, .i32⟩
  | 10 => ⟨S1x384, .i32⟩
  | 11 => ⟨S3x384, .i32⟩
  | 12 => ⟨S3x384, .i32⟩
  | 13 => ⟨S3x384, .i32⟩
  | 14 => ⟨S3x1, .i32⟩
  | 15 => ⟨S384, .i32⟩
  | 16 => ⟨S_, .i32⟩
  | 17 => ⟨S384, .i32⟩
  | 18 => ⟨S384, .i32⟩
  | 19 => ⟨S1x384, .i32⟩
  | 20 => ⟨S3x384, .i32⟩
  | 21 => ⟨S3x384, .i32⟩
  | 22 => ⟨S3x384, .i32⟩
  | 23 => ⟨S_, .i32⟩
  | 24 => ⟨S3x384, .i32⟩
  | 25 => ⟨S3x384, .i1⟩
  | 26 => ⟨S_, .i32⟩
  | 27 => ⟨S3x384, .i32⟩
  | 28 => ⟨S3x384, .i1⟩
  | 29 => ⟨S3x384, .i1⟩
  | 30 => ⟨S_, .i32⟩
  | 31 => ⟨S3x384, .i32⟩
  | 32 => ⟨S3x384, .i1⟩
  | 33 => ⟨S_, .i32⟩
  | 34 => ⟨S3x384, .i32⟩
  | 35 => ⟨S3x384, .i1⟩
  | 36 => ⟨S3x384, .i1⟩
  | 37 => ⟨S_, .i32⟩
  | 38 => ⟨S3x384, .i32⟩
  | 39 => ⟨S3x384, .i32⟩
  | 40 => ⟨S_, .i32⟩
  | 41 => ⟨S3x384, .i32⟩
  | 42 => ⟨S3x384, .i32⟩
  | 43 => ⟨S_, .i32⟩
  | 44 => ⟨S3x384, .i32⟩
  | 45 => ⟨S3x384, .i32⟩
  | 46 => ⟨S_, .i32⟩
  | 47 => ⟨S3x384, .i32⟩
  | 48 => ⟨S3x384, .i32⟩
  | 49 => ⟨S3x1x384x1, .i32⟩
  | 50 => ⟨S_, .i32⟩
  | 51 => ⟨S3x1x384x1, .i32⟩
  | 52 => ⟨S3x1x384x1, .i32⟩
  | 53 => ⟨S1x3x1x384, .i32⟩
  | 54 => ⟨S3x3x384x384, .i32⟩
  | 55 => ⟨S3x3x384x384, .i32⟩
  | 56 => ⟨S3x3x384x384, .i32⟩
  | 57 => ⟨S9x147456, .i32⟩
  | 58 => ⟨S3x1x384x1, .i1⟩
  | 59 => ⟨S1x3x1x384, .i1⟩
  | 60 => ⟨S3x3x384x384, .i1⟩
  | 61 => ⟨S3x3x384x384, .i1⟩
  | 62 => ⟨S3x3x384x384, .i1⟩
  | 63 => ⟨S9x147456, .i1⟩
  | 64 => ⟨S9x147456x1, .i1⟩
  | 65 => ⟨S9x147456x4, .i1⟩
  | 66 => ⟨S4x5x147456, .f32⟩
  | 67 => ⟨S147456x4x5, .f32⟩
  | 68 => ⟨S1x147456, .i32⟩
  | 69 => ⟨S147456, .i32⟩
  | 70 => ⟨S_, .f32⟩
  | 71 => ⟨S147456, .f32⟩
  | 72 => ⟨S_, .f32⟩
  | 73 => ⟨S256, .f32⟩
  | 74 => ⟨S147456x1, .i32⟩
  | 75 => ⟨S256, .f32⟩
  | 76 => ⟨S_, .f32⟩
  | 77 => ⟨S256x4x5, .f32⟩
  | 78 => ⟨S147456x1, .i32⟩
  | 79 => ⟨S256x4x5, .f32⟩
  | 80 => ⟨S_, .f32⟩
  | 81 => ⟨S256, .f32⟩
  | 82 => ⟨S256, .f32⟩
  | 83 => ⟨S256x1x1, .f32⟩
  | 84 => ⟨S256x4x5, .f32⟩
  | 85 => ⟨S256x4x5, .f32⟩
  | 86 => ⟨S_, .f32⟩
  | 87 => ⟨S9x147456x4, .f32⟩
  | 88 => ⟨S_, .i32⟩
  | 89 => ⟨S_, .i32⟩
  | 90 => ⟨S9x147456, .i32⟩
  | 91 => ⟨S147456x4x5, .f32⟩
  | 92 => ⟨S9x147456x4, .i1⟩
  | 93 => ⟨S_, .i32⟩
  | 94 => ⟨S_, .i32⟩
  | 95 => ⟨S256x4x5, .f32⟩
  | 96 => ⟨S9x147456x4, .f32⟩
  | 97 => ⟨S_, .i32⟩
  | 98 => ⟨S_, .i1⟩
  | 99 => ⟨S_, .i32⟩
  | 100 => ⟨S_, .i32⟩
  | 101 => ⟨S9x147456x1, .i32⟩
  | 102 => ⟨S9x147456x4x5, .f32⟩
  | 103 => ⟨S1x147456x4x5, .f32⟩
  | 104 => ⟨S9x147456x4x5, .f32⟩
  | 105 => ⟨S9x147456x4x5, .f32⟩
  | 106 => ⟨S9x147456x4x5, .f32⟩
  | 107 => ⟨S_, .f32⟩
  | 108 => ⟨S9x147456x4, .f32⟩
  | 109 => ⟨S9x147456x4, .f32⟩
  | 110 => ⟨S_, .f32⟩
  | 111 => ⟨S9x147456x4, .f32⟩
  | 112 => ⟨S9x147456x4, .f32⟩
  | 113 => ⟨S_, .f32⟩
  | 114 => ⟨S147456x4, .f32⟩
  | 115 => ⟨S_, .f32⟩
  | 116 => ⟨S147456x4, .f32⟩
  | 117 => ⟨S147456x4, .f32⟩
  | 118 => ⟨S1x147456x4, .f32⟩
  | 119 => ⟨S9x147456x4, .f32⟩
  | 120 => ⟨S9x147456x4, .f32⟩
  | 121 => ⟨S9x147456x4, .f32⟩
  | 122 => ⟨S_, .f32⟩
  | 123 => ⟨S147456x4, .f32⟩
  | 124 => ⟨S1x147456x4, .f32⟩
  | 125 => ⟨S9x147456x4, .f32⟩
  | 126 => ⟨S9x147456x4, .f32⟩
  | 127 => ⟨S9x147456x4x1, .f32⟩
  | _ => ⟨S4x5x384x384, .f32⟩

abbrev hbmTy0_1 (i : Nat) : BufTy := match i % 128 with
  | 0 => ⟨S1x147456x4x5, .f32⟩
  | 1 => ⟨S9x147456x4x5, .f32⟩
  | 2 => ⟨S9x147456x4x5, .f32⟩
  | 3 => ⟨S9x147456x4x5, .f32⟩
  | 4 => ⟨S1327104x4x5, .f32⟩
  | 5 => ⟨S1327104, .i32⟩
  | 6 => ⟨S_, .f32⟩
  | 7 => ⟨S256x4x5, .f32⟩
  | 8 => ⟨S1327104x1, .i32⟩
  | 9 => ⟨S256x4x5, .f32⟩
  | 10 => ⟨S1327104x4, .f32⟩
  | 11 => ⟨S1327104, .i32⟩
  | 12 => ⟨S_, .f32⟩
  | 13 => ⟨S256x4, .f32⟩
  | 14 => ⟨S1327104x1, .i32⟩
  | 15 => ⟨S256x4, .f32⟩
  | 16 => ⟨S256x4x1, .f32⟩
  | 17 => ⟨S_, .f32⟩
  | 18 => ⟨S256x4x1, .f32⟩
  | 19 => ⟨S256x4x1, .f32⟩
  | 20 => ⟨S256x4x5, .f32⟩
  | 21 => ⟨S256x4x5, .f32⟩
  | 22 => ⟨S_, .i32⟩
  | 23 => ⟨S_, .i32⟩
  | 24 => ⟨S4x9x147456, .f32⟩
  | 25 => ⟨S4x9x384x384, .f32⟩
  | 26 => ⟨S4x5x256, .f32⟩
  | _ => ⟨S4x5x384x384, .f32⟩

abbrev hbmTy (i : Nat) : BufTy := match i / 128 with
  | 0 => hbmTy0_0 i
  | 1 => hbmTy0_1 i
  | _ => ⟨S4x5x384x384, .f32⟩

abbrev bufTy : (tb : Table) → Fin (tcTables nBuf tb) → BufTy
  | .hbm, ⟨i, _⟩ => hbmTy i
  | _, _ => ⟨S4x5x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c_1 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c_2 : Ref sig .tc := ⟨.hbm, 23, rfl⟩
abbrev main_v19 : Ref sig .tc := ⟨.hbm, 24, rfl⟩
abbrev main_v20 : Ref sig .tc := ⟨.hbm, 25, rfl⟩
abbrev main_c_3 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c_4 : Ref sig .tc := ⟨.hbm, 30, rfl⟩
abbrev main_v24 : Ref sig .tc := ⟨.hbm, 31, rfl⟩
abbrev main_v25 : Ref sig .tc := ⟨.hbm, 32, rfl⟩
abbrev main_c_5 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c_6 : Ref sig .tc := ⟨.hbm, 37, rfl⟩
abbrev main_v29 : Ref sig .tc := ⟨.hbm, 38, rfl⟩
abbrev main_v30 : Ref sig .tc := ⟨.hbm, 39, rfl⟩
abbrev main_c_7 : Ref sig .tc := ⟨.hbm, 40, rfl⟩
abbrev main_v31 : Ref sig .tc := ⟨.hbm, 41, rfl⟩
abbrev main_v32 : Ref sig .tc := ⟨.hbm, 42, rfl⟩
abbrev main_c_8 : Ref sig .tc := ⟨.hbm, 43, rfl⟩
abbrev main_v33 : Ref sig .tc := ⟨.hbm, 44, rfl⟩
abbrev main_v34 : Ref sig .tc := ⟨.hbm, 45, rfl⟩
abbrev main_c_9 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_10 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst : Ref sig .tc := ⟨.hbm, 70, rfl⟩
abbrev main_v57 : Ref sig .tc := ⟨.hbm, 71, rfl⟩
abbrev main_cst_11 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_12 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_13 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_14 : Ref sig .tc := ⟨.hbm, 86, rfl⟩
abbrev main_v69 : Ref sig .tc := ⟨.hbm, 87, rfl⟩
abbrev main_c_15 : Ref sig .tc := ⟨.hbm, 88, rfl⟩
abbrev main_c_16 : Ref sig .tc := ⟨.hbm, 89, rfl⟩
abbrev main_v70_0 : Ref sig .tc := ⟨.hbm, 90, rfl⟩
abbrev main_v70_1 : Ref sig .tc := ⟨.hbm, 91, rfl⟩
abbrev main_v70_2 : Ref sig .tc := ⟨.hbm, 92, rfl⟩
abbrev main_v70_3 : Ref sig .tc := ⟨.hbm, 93, rfl⟩
abbrev main_v70_4 : Ref sig .tc := ⟨.hbm, 94, rfl⟩
abbrev main_v70_5 : Ref sig .tc := ⟨.hbm, 95, rfl⟩
abbrev main_v70_6 : Ref sig .tc := ⟨.hbm, 96, rfl⟩
abbrev main_while0c_c_23 : Ref sig .tc := ⟨.hbm, 97, rfl⟩
abbrev main_while0c_v74 : Ref sig .tc := ⟨.hbm, 98, rfl⟩
abbrev main_while0b_c_23 : Ref sig .tc := ⟨.hbm, 99, rfl⟩
abbrev main_while0b_v74 : Ref sig .tc := ⟨.hbm, 100, rfl⟩
abbrev main_while0b_v75 : Ref sig .tc := ⟨.hbm, 101, rfl⟩
abbrev main_while0b_v76 : Ref sig .tc := ⟨.hbm, 102, rfl⟩
abbrev main_while0b_v77 : Ref sig .tc := ⟨.hbm, 103, rfl⟩
abbrev main_while0b_v78 : Ref sig .tc := ⟨.hbm, 104, rfl⟩
abbrev main_while0b_v79 : Ref sig .tc := ⟨.hbm, 105, rfl⟩
abbrev main_while0b_v80 : Ref sig .tc := ⟨.hbm, 106, rfl⟩
abbrev main_while0b_cst_24 : Ref sig .tc := ⟨.hbm, 107, rfl⟩
abbrev main_while0b_v81 : Ref sig .tc := ⟨.hbm, 108, rfl⟩
abbrev main_while0b_v82 : Ref sig .tc := ⟨.hbm, 109, rfl⟩
abbrev main_while0b_cst_25 : Ref sig .tc := ⟨.hbm, 110, rfl⟩
abbrev main_while0b_v83 : Ref sig .tc := ⟨.hbm, 111, rfl⟩
abbrev main_while0b_v84 : Ref sig .tc := ⟨.hbm, 112, rfl⟩
abbrev main_while0b_cst_26 : Ref sig .tc := ⟨.hbm, 113, rfl⟩
abbrev main_while0b_v85 : Ref sig .tc := ⟨.hbm, 114, rfl⟩
abbrev main_while0b_cst_27 : Ref sig .tc := ⟨.hbm, 115, rfl⟩
abbrev main_while0b_v86 : Ref sig .tc := ⟨.hbm, 116, rfl⟩
abbrev main_while0b_v87 : Ref sig .tc := ⟨.hbm, 117, rfl⟩
abbrev main_while0b_v88 : Ref sig .tc := ⟨.hbm, 118, rfl⟩
abbrev main_while0b_v89 : Ref sig .tc := ⟨.hbm, 119, rfl⟩
abbrev main_while0b_v90 : Ref sig .tc := ⟨.hbm, 120, rfl⟩
abbrev main_while0b_v91 : Ref sig .tc := ⟨.hbm, 121, rfl⟩
abbrev main_while0b_cst_28 : Ref sig .tc := ⟨.hbm, 122, rfl⟩
abbrev main_while0b_v92 : Ref sig .tc := ⟨.hbm, 123, rfl⟩
abbrev main_while0b_v93 : Ref sig .tc := ⟨.hbm, 124, rfl⟩
abbrev main_while0b_v94 : Ref sig .tc := ⟨.hbm, 125, rfl⟩
abbrev main_while0b_v95 : Ref sig .tc := ⟨.hbm, 126, rfl⟩
abbrev main_while0b_v96 : Ref sig .tc := ⟨.hbm, 127, rfl⟩
abbrev main_while0b_v97 : Ref sig .tc := ⟨.hbm, 128, rfl⟩
abbrev main_while0b_v98 : Ref sig .tc := ⟨.hbm, 129, rfl⟩
abbrev main_while0b_v99 : Ref sig .tc := ⟨.hbm, 130, rfl⟩
abbrev main_while0b_v100 : Ref sig .tc := ⟨.hbm, 131, rfl⟩
abbrev main_while0b_v101 : Ref sig .tc := ⟨.hbm, 132, rfl⟩
abbrev main_while0b_v102 : Ref sig .tc := ⟨.hbm, 133, rfl⟩
abbrev main_while0b_cst_29 : Ref sig .tc := ⟨.hbm, 134, rfl⟩
abbrev main_while0b_v103 : Ref sig .tc := ⟨.hbm, 135, rfl⟩
abbrev main_while0b_v104 : Ref sig .tc := ⟨.hbm, 136, rfl⟩
abbrev main_while0b_v105 : Ref sig .tc := ⟨.hbm, 137, rfl⟩
abbrev main_while0b_v106 : Ref sig .tc := ⟨.hbm, 138, rfl⟩
abbrev main_while0b_v107 : Ref sig .tc := ⟨.hbm, 139, rfl⟩
abbrev main_while0b_cst_30 : Ref sig .tc := ⟨.hbm, 140, rfl⟩
abbrev main_while0b_v108 : Ref sig .tc := ⟨.hbm, 141, rfl⟩
abbrev main_while0b_v109 : Ref sig .tc := ⟨.hbm, 142, rfl⟩
abbrev main_while0b_v110 : Ref sig .tc := ⟨.hbm, 143, rfl⟩
abbrev main_while0b_v111 : Ref sig .tc := ⟨.hbm, 144, rfl⟩
abbrev main_while0b_cst_31 : Ref sig .tc := ⟨.hbm, 145, rfl⟩
abbrev main_while0b_v112 : Ref sig .tc := ⟨.hbm, 146, rfl⟩
abbrev main_while0b_v113 : Ref sig .tc := ⟨.hbm, 147, rfl⟩
abbrev main_while0b_v114 : Ref sig .tc := ⟨.hbm, 148, rfl⟩
abbrev main_while0b_v115 : Ref sig .tc := ⟨.hbm, 149, rfl⟩
abbrev main_while0b_c_32 : Ref sig .tc := ⟨.hbm, 150, rfl⟩
abbrev main_while0b_v116 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩

abbrev nD : Nat := 1
abbrev τ : Topo := Topo.v7x

variable {F : FTy → Type} [FloatOps F]

abbrev main_while0_count : Scf.Loop 32 := ⟨0#32, 5#32, 1#32⟩
-- ==== Proof.IdealRun.lean ====
module

public import proofs.«01_k».proof.Proof.Gen.KernelIdeal.Skeleton
public import proofs.«01_k».proof.Proof.Gen.KernelIdeal.Frame
public import Idealize.ShloMosaic.Lib.Tactic

@[expose] public section

set_option maxRecDepth 16384

noncomputable section

namespace Cert.KernelIdeal.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

theorem off6_eq : ∀ i : grid0.Coords, k0_off6 i = ![112 * (i 1).val, 0] := by decide +kernel
theorem off7_eq : ∀ i : grid0.Coords, k0_off7 i = ![112 * (i 1).val, 0] := by decide +kernel
theorem off8_eq : ∀ i : grid0.Coords, k0_off8 i = ![112 * (i 1).val + 128, 0] := by decide +kernel
theorem off9_eq : ∀ i : grid0.Coords, k0_off9 i = ![112 * (i 1).val + 128, 0] := by decide +kernel
instance closedOff6 (i : grid0.Coords) : ClosedOff (k0_off6 i) := ⟨![112 * (i 1).val, 0], off6_eq i⟩
instance closedOff7 (i : grid0.Coords) : ClosedOff (k0_off7 i) := ⟨![112 * (i 1).val, 0], off7_eq i⟩
instance closedOff8 (i : grid0.Coords) : ClosedOff (k0_off8 i) := ⟨![112 * (i 1).val + 128, 0], off8_eq i⟩
instance closedOff9 (i : grid0.Coords) : ClosedOff (k0_off9 i) := ⟨![112 * (i 1).val + 128, 0], off9_eq i⟩

noncomputable def bodyRun (c : Dev nD) (i : grid0.Coords)
    (M2 : Memref sig .tc .vmem S4x5x192x384 .f32) (h2 : M2.IsWhole)
    (M3 : Memref sig .tc .vmem S3x384x16 .f32) (h3 : M3.IsWhole)
    (M4 : Memref sig .tc .vmem S3x16x384 .f32) (h4 : M4.IsWhole)
    (M5 : Memref sig .tc .vmem S3x1x384 .f32) (h5 : M5.IsWhole)
    (M6 : Memref sig .tc .vmem S4x20 .f32) (h6 : M6.IsWhole)
    (M7 : Memref sig .tc .vmem S20x4 .f32) (h7 : M7.IsWhole)
    (M8 : Memref sig .tc .vmem S160x20 .f32) (h8 : M8.IsWhole)
    (M9 : Memref sig .tc .vmem S32x4 .f32) (h9 : M9.IsWhole)
    (M10 : Memref sig .tc .vmem S4x9x192x384 .f32) (h10 : M10.IsWhole)
    (M11 : Memref sig .tc .vmem S256x20 .f32) (h11 : M11.IsWhole)
    (M12 : Memref sig .tc .vmem S256x20 .f32) (h12 : M12.IsWhole)
    (M13 : Memref sig .tc .vmem S256x20 .f32) (h13 : M13.IsWhole)
    (M14 : Memref sig .tc .vmem S256x4 .f32) (h14 : M14.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) :
    { W : Bf (F := F) c M10 × Bf (F := F) c M11 × Bf (F := F) c M12 × Bf (F := F) c M13 × Bf (F := F) c M14 //
      ∀ (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14
          ∗ (iprop(pt c M2 f2 ∗ pt c M3 f3 ∗ pt c M4 f4 ∗ pt c M5 f5 ∗ pt c M6 f6 ∗ pt c M7 f7 ∗ pt c M8 f8 ∗ pt c M9 f9 ∗ pt c M10 W.1 ∗ pt c M11 W.2.1 ∗ pt c M12 W.2.2.1 ∗ pt c M13 W.2.2.2.1 ∗ pt c M14 W.2.2.2.2) -∗ Q ⟨⟩))
        ⊢ wp frame (wpE (defs₀ (F := F)) Variants.none c none) E
            (cc0__ssn_body i M2 h2 M3 h3 M4 h4 M5 h5 M6 h6 M7 h7 M8 h8 M9 h9 M10 h10 M11 h11 M12 h12 M13 h13 M14 h14) Q } := by
  refine ⟨⟨?_, ?_, ?_, ?_, ?_⟩, fun E Q => ?run⟩
  case run =>
    iintro ⟨H2, H3, H4, H5, H6, H7, H8, H9, H10, H11, H12, H13, H14, Hk⟩
    sl_exec_parts!
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

end Cert.KernelIdeal.Proof

end
-- ==== Proof.IdealFrame.lean ====
/- The frame of `KernelIdeal`: it runs to the end, faults nowhere, leaves its argument as it was and every semaphore counter at zero.
   The two result windows are held at any contents, so that nothing is said of what the body computes. -/
module

public import proofs.«01_k».proof.Proof.IdealRun

@[expose] public section

set_option maxRecDepth 16384

noncomputable section

namespace Cert.KernelIdeal.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A whole memref owned at the contents `X` is its buffer, held at some contents that read `X`. -/
theorem owns_pt (c : Dev nD) {S : Shape} {e : EltTy} (M : Memref sig .tc .vmem S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

/-- The result windows, of which the frame says nothing. -/
def forgot : Fin cfg0.W → Bool := fun | 0 => false | 1 => false | 2 => false | 3 => false | 4 => false | 5 => false | 6 => false | 7 => false | 8 => true | 9 => true | ⟨_ + 10, h⟩ => absurd h (Nat.not_lt.2 (Nat.le_add_left _ _))

/-- The proof data on core `c`: the arrays as the region finds them; an input window's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => fun _ => Classical.arbitrary _
    | ⟨9, _⟩ => fun _ => Classical.arbitrary _
  Φ _ := Pipeline.ΦA spec0 c
  q _ := fullShare
  owed _ := 0

theorem after0 (c : Dev nD) (t : Fin cfg0.N) : (dats m 0 c).after 0 t = iblk m c 0 t := rfl
theorem after1 (c : Dev nD) (t : Fin cfg0.N) : (dats m 0 c).after 1 t = iblk m c 1 t := rfl
theorem after2 (c : Dev nD) (t : Fin cfg0.N) : (dats m 0 c).after 2 t = iblk m c 2 t := rfl
theorem after3 (c : Dev nD) (t : Fin cfg0.N) : (dats m 0 c).after 3 t = iblk m c 3 t := rfl
theorem after4 (c : Dev nD) (t : Fin cfg0.N) : (dats m 0 c).after 4 t = iblk m c 4 t := rfl
theorem after5 (c : Dev nD) (t : Fin cfg0.N) : (dats m 0 c).after 5 t = iblk m c 5 t := rfl
theorem after6 (c : Dev nD) (t : Fin cfg0.N) : (dats m 0 c).after 6 t = iblk m c 6 t := rfl
theorem after7 (c : Dev nD) (t : Fin cfg0.N) : (dats m 0 c).after 7 t = iblk m c 7 t := rfl
theorem before0 (c : Dev nD) (t : Fin cfg0.N) (d) : (dats m 0 c).before 0 t d = iblk m c 0 t :=
  before0_0_of m (dats m 0 c) rfl (fun _ => rfl) t d
theorem before1 (c : Dev nD) (t : Fin cfg0.N) (d) : (dats m 0 c).before 1 t d = iblk m c 1 t :=
  before0_1_of m (dats m 0 c) rfl (fun _ => rfl) t d
theorem before2 (c : Dev nD) (t : Fin cfg0.N) (d) : (dats m 0 c).before 2 t d = iblk m c 2 t :=
  before0_2_of m (dats m 0 c) rfl (fun _ => rfl) t d
theorem before3 (c : Dev nD) (t : Fin cfg0.N) (d) : (dats m 0 c).before 3 t d = iblk m c 3 t :=
  before0_3_of m (dats m 0 c) rfl (fun _ => rfl) t d
theorem before4 (c : Dev nD) (t : Fin cfg0.N) (d) : (dats m 0 c).before 4 t d = iblk m c 4 t :=
  before0_4_of m (dats m 0 c) rfl (fun _ => rfl) t d
theorem before5 (c : Dev nD) (t : Fin cfg0.N) (d) : (dats m 0 c).before 5 t d = iblk m c 5 t :=
  before0_5_of m (dats m 0 c) rfl (fun _ => rfl) t d
theorem before6 (c : Dev nD) (t : Fin cfg0.N) (d) : (dats m 0 c).before 6 t d = iblk m c 6 t :=
  before0_6_of m (dats m 0 c) rfl (fun _ => rfl) t d
theorem before7 (c : Dev nD) (t : Fin cfg0.N) (d) : (dats m 0 c).before 7 t d = iblk m c 7 t :=
  before0_7_of m (dats m 0 c) rfl (fun _ => rfl) t d

/-- The body's run on any whole buffers: the operands are left as they were, the results and the scratch at some contents. -/
theorem sound_kernel (c : Dev nD) (i : grid0.Coords)
    (M2 : Memref sig .tc .vmem S4x5x192x384 .f32) (h2 : M2.IsWhole)
    (M3 : Memref sig .tc .vmem S3x384x16 .f32) (h3 : M3.IsWhole)
    (M4 : Memref sig .tc .vmem S3x16x384 .f32) (h4 : M4.IsWhole)
    (M5 : Memref sig .tc .vmem S3x1x384 .f32) (h5 : M5.IsWhole)
    (M6 : Memref sig .tc .vmem S4x20 .f32) (h6 : M6.IsWhole)
    (M7 : Memref sig .tc .vmem S20x4 .f32) (h7 : M7.IsWhole)
    (M8 : Memref sig .tc .vmem S160x20 .f32) (h8 : M8.IsWhole)
    (M9 : Memref sig .tc .vmem S32x4 .f32) (h9 : M9.IsWhole)
    (M10 : Memref sig .tc .vmem S4x9x192x384 .f32) (h10 : M10.IsWhole)
    (M11 : Memref sig .tc .vmem S256x20 .f32) (h11 : M11.IsWhole)
    (M12 : Memref sig .tc .vmem S256x20 .f32) (h12 : M12.IsWhole)
    (M13 : Memref sig .tc .vmem S256x20 .f32) (h13 : M13.IsWhole)
    (M14 : Memref sig .tc .vmem S256x4 .f32) (h14 : M14.IsWhole)
    (X2 : S4x5x192x384.Idx → Elt F .f32) (X3 : S3x384x16.Idx → Elt F .f32) (X4 : S3x16x384.Idx → Elt F .f32) (X5 : S3x1x384.Idx → Elt F .f32) (X6 : S4x20.Idx → Elt F .f32) (X7 : S20x4.Idx → Elt F .f32) (X8 : S160x20.Idx → Elt F .f32) (X9 : S32x4.Idx → Elt F .f32) (E : Set ℕ) (Q : PUnit → sProp 𝕄) :
    iprop(owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ (∃ X, owns (c : Thread nD τ) M10 fullShare X) ∗ (∃ X, owns (c : Thread nD τ) M11 fullShare X) ∗ (∃ f, pt c M12 f) ∗ (∃ f, pt c M13 f) ∗ (∃ f, pt c M14 f) ∗ (iprop(owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ (∃ X, owns (c : Thread nD τ) M10 fullShare X) ∗ (∃ X, owns (c : Thread nD τ) M11 fullShare X) ∗ (∃ f, pt c M12 f) ∗ (∃ f, pt c M13 f) ∗ (∃ f, pt c M14 f)) -∗ Q ⟨⟩))
      ⊢ wp frame (wpE (defs₀ (F := F)) Variants.none c none) E (cc0__ssn_body i M2 h2 M3 h3 M4 h4 M5 h5 M6 h6 M7 h7 M8 h8 M9 h9 M10 h10 M11 h11 M12 h12 M13 h13 M14 h14) Q := by
  simp only [owns_pt c _ h2, owns_pt c _ h3, owns_pt c _ h4, owns_pt c _ h5, owns_pt c _ h6, owns_pt c _ h7, owns_pt c _ h8, owns_pt c _ h9, owns_pt c _ h10, owns_pt c _ h11]
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%X10, %f10, -, H10⟩, ⟨%X11, %f11, -, H11⟩, ⟨%f12, H12⟩, ⟨%f13, H13⟩, ⟨%f14, H14⟩, Hk⟩
  iapply ((bodyRun c i M2 h2 M3 h3 M4 h4 M5 h5 M6 h6 M7 h7 M8 h8 M9 h9 M10 h10 M11 h11 M12 h12 M13 h13 M14 h14 f2 f3 f4 f5 f6 f7 f8 f9 f10 f11 f12 f13 f14).2 E Q)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H2, H3, H4, H5, H6, H7, H8, H9, H10, H11, H12, H13, H14⟩
  iapply Hk
  isplitl [H2]; · iexists f2; isplitr; (· ipureintro; exact hf2); iexact H2
  isplitl [H3]; · iexists f3; isplitr; (· ipureintro; exact hf3); iexact H3
  isplitl [H4]; · iexists f4; isplitr; (· ipureintro; exact hf4); iexact H4
  isplitl [H5]; · iexists f5; isplitr; (· ipureintro; exact hf5); iexact H5
  isplitl [H6]; · iexists f6; isplitr; (· ipureintro; exact hf6); iexact H6
  isplitl [H7]; · iexists f7; isplitr; (· ipureintro; exact hf7); iexact H7
  isplitl [H8]; · iexists f8; isplitr; (· ipureintro; exact hf8); iexact H8
  isplitl [H9]; · iexists f9; isplitr; (· ipureintro; exact hf9); iexact H9
  isplitl [H10]; · iexists _; iexists _; isplitr; swap; (· iexact H10); ipureintro; rfl
  isplitl [H11]; · iexists _; iexists _; isplitr; swap; (· iexact H11); ipureintro; rfl
  isplitl [H12]; · iexists _; iexact H12
  isplitl [H13]; · iexists _; iexact H13
  iexists _; iexact H14

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d))
    ∗ (∃ X, owns (c : Thread nD τ) (st0_8 t) fullShare X) ∗ (∃ X, owns (c : Thread nD τ) (st0_9 t) fullShare X))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t)
    ∗ (∃ X, owns (c : Thread nD τ) (st0_8 t) fullShare X) ∗ (∃ X, owns (c : Thread nD τ) (st0_9 t) fullShare X))

theorem Φ_pts (c : Dev nD) : (Pipeline.ΦA spec0 c : sProp 𝕄) = iprop(((∃ f, pt c (Memref.whole cc0_scratch0) f) ∗ (∃ f, pt c (Memref.whole cc0_scratch1) f) ∗ (∃ f, pt c (Memref.whole cc0_scratch2) f)) ∗ ∃ r, prngReg c r) := by
  unfold Pipeline.ΦA; rw [scopedRest0_eq]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl, Φ_pts,
    after0, after1, after2, after3, after4, after5, after6, after7]
  iintro ⟨⟨⟨G0, G1, G2⟩, Hg⟩, Howes, ⟨%d0, H0⟩, ⟨%d1, H1⟩, ⟨%d2, H2⟩, ⟨%d3, H3⟩, ⟨%d4, H4⟩, ⟨%d5, H5⟩, ⟨%d6, H6⟩, ⟨%d7, H7⟩, H8, H9⟩
  iapply (sound_kernel c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [G0]; · iexact G0
  isplitl [G1]; · iexact G1
  isplitl [G2]; · iexact G2
  iintro ⟨H0, H1, H2, H3, H4, H5, H6, H7, H8, H9, G0, G1, G2⟩
  isplitl [G0 G1 G2 Hg]
  · isplitr [Hg]
    · isplitl [G0]; · iexact G0
      isplitl [G1]; · iexact G1
      iexact G2
    · iexact Hg
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligationLoose (dats m 0 c) (defs₀ (F := F)) Variants.none () Set.univ forgot := fun t => by
  rw [Gen.bigSep_W0, Gen.bigSep_W0, defs₀_row]
  exact triple_restated (sound_body m c t) rfl .rfl fun _ => .rfl

/-- The buffers the host lines after the region write. -/
def tailBufs : Finset (Ref sig .tc) := {main_v1, main_v2}

theorem tail_writes : ∀ ops ∈ ([hostOps1] : List (List (HloOp τ sig (Elt F)))), ∀ op ∈ ops, ∀ b : Ref sig .tc,
    Proc.devRef .tc b ∈ op.writes → b ∈ tailBufs := by
  intro ops hops op hop b hb
  simp only [List.mem_cons, List.mem_nil_iff, or_false] at hops
  rcases hops with rfl
  simp only [hostOps1, List.mem_cons, List.mem_nil_iff, or_false] at hop
  rcases hop with rfl | rfl <;>
    simp only [StableHlo.unary_writes, StableHlo.reshape_writes, Finset.mem_singleton] at hb <;>
    (have := Proc.devRef_injective .tc hb; subst this; decide)

/-- The frame, from any memory with zero counters. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  Pipeline.θ_run_frame_around_T_forget cfgs (dats m) (0 : Fin 1) launch0 defs₀ Variants.none forgot tailBufs m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps) (hT := tail_writes)
    (hmain := hmain m Variants.none) (hA := fun _ _ => rfl) (hΦ := fun _ _ => rfl)
    (Q' := _) (hQ' := fun r h => ⟨fun c => by
      have h0 := (h.1 c).1 0
      rw [Pipeline.RDat.ArrAt_in _ 0 rfl] at h0
      exact h0.trans (V_main_arg0 m c), h.2⟩)

end Cert.KernelIdeal.Proof

end
-- ==== Proof.RefFrame.lean ====
/- The reference's run leaves its argument unchanged and every semaphore counter at zero: its fold over the host
   operations writes no argument, and the machine it runs on declares no semaphore. -/
module

public import proofs.«01_k».proof.Proof.Gen.ReferenceIdeal
public import proofs.«01_k».proof.Proof.Gen.ReferenceIdeal.Run
public import Idealize.ShloMosaic.Lib.Quiescent

@[expose] public section

set_option maxRecDepth 16384

noncomputable section

namespace Cert.ReferenceIdeal.Proof

open Idealize.ShloMosaic Idealize.ShloMosaic.StableHlo Idealize.SL.Sem
open Cert.ReferenceIdeal Cert.ReferenceIdeal.Gen Cert.ReferenceIdeal.Value
open TcCoe

variable {F : FTy → Type} [FloatOps F]
  (m : (ℓ : Loc nD τ sig) → Buf (Elt F) ℓ) (ρ : Dev nD → PrngReg)

/-- The loop's condition does not write the argument. -/
theorem cond_arg (V : Valuation τ sig (Elt F)) : after condOps V (Proc.devRef .tc main_arg0) = V (Proc.devRef .tc main_arg0) :=
  after_of_forall_not_mem condOps V fun op hop => by
    fin_cases hop <;> exact fun h => devRef_ne_of_ne (by decide) (Finset.mem_singleton.mp h)

/-- One trip of the loop does not write the argument. -/
theorem trip_arg (V : Valuation τ sig (Elt F)) : afterL bodyI V (Proc.devRef .tc main_arg0) = V (Proc.devRef .tc main_arg0) := by
  rw [show afterL bodyI V = after while0Ops0 V from rfl, trip_windows,
    after_of_forall_not_mem while0Ops0_step (val3 V) (b := Proc.devRef .tc main_arg0) fun op hop => by
      fin_cases hop <;> exact fun h => devRef_ne_of_ne (by decide) (Finset.mem_singleton.mp h),
    val3_keep V main_arg0 (by decide), val2_keep V main_arg0 (by decide), val1_keep V main_arg0 (by decide)]
  rfl

/-- The argument is as at launch before every trip. -/
theorem atTrip_arg (c : Dev nD) : ∀ k, atTrip condOps bodyI (entryContents preI m) k c (Proc.devRef .tc main_arg0)
    = m ((c.tc : Thread nD τ).loc main_arg0)
  | 0 => show after hostOps0 (launchContents m c) (Proc.devRef .tc main_arg0) = launchContents m c (Proc.devRef .tc main_arg0) from
    after_of_writes_sub hostOps0 _ hostOps0_writes (by decide +kernel)
  | k + 1 => by rw [atTrip_succ, trip_arg, cond_arg]; exact atTrip_arg c k

/-- The argument is as at launch when the program ends. -/
theorem final_arg (c : Dev nD) : finalContents condOps preI bodyI postI 5 m c (Proc.devRef .tc main_arg0)
    = m ((c.tc : Thread nD τ).loc main_arg0) := by
  refine (after_of_forall_not_mem hostOps0_1 _ (b := Proc.devRef .tc main_arg0) fun op hop => ?_).trans
    ((cond_arg _).trans (atTrip_arg m c 5))
  fin_cases hop <;> exact fun h => devRef_ne_of_ne (by decide) (Finset.mem_singleton.mp h)

/-- The program declares no semaphore, so every counter of any state of it is zero. -/
theorem no_sems (s : MemSt nD τ sig (Elt F)) : s.sem = fun _ => 0 := sem_eq_zero_of_no_sems rfl s

/-- The reference runs, leaves its argument unchanged, and ends with every counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run _ _ _).mono (fun r h => ⟨fun c => (h c main_arg0 rfl).trans (final_arg m c), no_sems r.2⟩) (run_fold m ρ)

end Cert.ReferenceIdeal.Proof

end
-- ==== Proof.Spec.lean ====
module

public import Idealize.ShloMosaic.PureOps.Ideal
public import Mathlib.Analysis.SpecialFunctions.Log.Basic
public import Mathlib.Analysis.SpecialFunctions.Pow.Real

@[expose] public section

noncomputable section

/- Soft superpixels over the real numbers: what both programs compute. -/
namespace Cert.Spec

/-- The neighbour at step `t` of position `r` among sixteen, the ends repeated. -/
def near (r : ℕ) (t : Fin 3) : Fin 16 := ⟨min (r + t.val - 1) 15, by omega⟩
/-- That neighbour exists. -/
def inside (r : ℕ) (t : Fin 3) : Prop := 1 ≤ r + t.val ∧ r + t.val ≤ 16
instance (r : ℕ) (t : Fin 3) : Decidable (inside r t) := by unfold inside; infer_instance

theorem inside_mid (r : ℕ) (h : r < 16) : inside r 1 := by
  constructor
  · show 1 ≤ r + 1; omega
  · show r + 1 ≤ 16; omega

variable (X : Fin 4 → Fin 5 → ℕ → ℕ → ℝ)

/-- Minus the squared distance of a pixel to a neighbour. -/
def logit (S : Fin 16 → Fin 16 → Fin 4 → Fin 5 → ℝ) (b : Fin 4) (y x : ℕ) (ty tx : Fin 3) : ℝ :=
  -∑ c : Fin 5, (X b c y x - S (near (y / 24) ty) (near (x / 24) tx) b c) * (X b c y x - S (near (y / 24) ty) (near (x / 24) tx) b c)

/-- A neighbour's weight before scaling. -/
def wt (S : Fin 16 → Fin 16 → Fin 4 → Fin 5 → ℝ) (b : Fin 4) (y x : ℕ) (ty tx : Fin 3) : ℝ :=
  if inside (y / 24) ty ∧ inside (x / 24) tx then Real.exp (logit X S b y x ty tx) else 0

/-- A neighbour's share of a pixel. -/
def Q (S : Fin 16 → Fin 16 → Fin 4 → Fin 5 → ℝ) (b : Fin 4) (y x : ℕ) (ty tx : Fin 3) : ℝ :=
  wt X S b y x ty tx / ∑ ty' : Fin 3, ∑ tx' : Fin 3, wt X S b y x ty' tx'

/-- What a row of superpixels gives, by column, to the row at step `ty` from it: the pixels. -/
def cn (S : Fin 16 → Fin 16 → Fin 4 → Fin 5 → ℝ) (r : ℕ) (ty : Fin 3) (J : Fin 16) (b : Fin 4) (c : Fin 5) : ℝ :=
  ∑ yy : Fin 24, ∑ tx : Fin 3, ∑ x : Fin 384,
    if near (x.val / 24) tx = J then Q X S b (24 * r + yy.val) x.val ty tx * X b c (24 * r + yy.val) x.val else 0
/-- And the weights. -/
def cd (S : Fin 16 → Fin 16 → Fin 4 → Fin 5 → ℝ) (r : ℕ) (ty : Fin 3) (J : Fin 16) (b : Fin 4) : ℝ :=
  ∑ yy : Fin 24, ∑ tx : Fin 3, ∑ x : Fin 384,
    if near (x.val / 24) tx = J then Q X S b (24 * r + yy.val) x.val ty tx else 0

/-- The sums that make a superpixel's next mean. -/
def num (S : Fin 16 → Fin 16 → Fin 4 → Fin 5 → ℝ) (R J : Fin 16) (b : Fin 4) (c : Fin 5) : ℝ :=
  ∑ r : Fin 16, ∑ ty : Fin 3, if near r.val ty = R then cn X S r.val ty J b c else 0
def den (S : Fin 16 → Fin 16 → Fin 4 → Fin 5 → ℝ) (R J : Fin 16) (b : Fin 4) : ℝ :=
  ∑ r : Fin 16, ∑ ty : Fin 3, if near r.val ty = R then cd X S r.val ty J b else 0

/-- The next means. -/
def step (eps : ℝ) (S : Fin 16 → Fin 16 → Fin 4 → Fin 5 → ℝ) (R J : Fin 16) (b : Fin 4) (c : Fin 5) : ℝ :=
  num X S R J b c / (den X S R J b + eps)

/-- A superpixel's first sum. -/
def isum (R : ℕ) (J : Fin 16) (b : Fin 4) (c : Fin 5) : ℝ :=
  ∑ yy : Fin 24, ∑ x : Fin 384, if near (x.val / 24) 1 = J then X b c (24 * R + yy.val) x.val else 0
/-- The first means. -/
def init (R J : Fin 16) (b : Fin 4) (c : Fin 5) : ℝ := isum X R.val J b c / 576

/-- The means after `n` steps. -/
def means (eps : ℝ) : ℕ → Fin 16 → Fin 16 → Fin 4 → Fin 5 → ℝ
  | 0 => init X
  | n + 1 => step X eps (means eps n)

theorem wt_nonneg (S : Fin 16 → Fin 16 → Fin 4 → Fin 5 → ℝ) (b : Fin 4) (y x : ℕ) (ty tx : Fin 3) : 0 ≤ wt X S b y x ty tx := by
  unfold wt; split
  · exact (Real.exp_pos _).le
  · exact le_rfl

theorem wt_total_pos (S : Fin 16 → Fin 16 → Fin 4 → Fin 5 → ℝ) (b : Fin 4) (y x : ℕ) (hy : y < 384) (hx : x < 384) :
    0 < ∑ ty : Fin 3, ∑ tx : Fin 3, wt X S b y x ty tx := by
  have h1 : 0 < wt X S b y x 1 1 := by
    unfold wt; rw [if_pos ⟨inside_mid _ (by omega), inside_mid _ (by omega)⟩]; exact Real.exp_pos _
  have h2 : wt X S b y x 1 1 ≤ ∑ tx : Fin 3, wt X S b y x 1 tx :=
    Finset.single_le_sum (f := fun tx => wt X S b y x 1 tx) (fun tx _ => wt_nonneg X S b y x 1 tx) (Finset.mem_univ 1)
  have h3 : ∑ tx : Fin 3, wt X S b y x 1 tx ≤ ∑ ty : Fin 3, ∑ tx : Fin 3, wt X S b y x ty tx :=
    Finset.single_le_sum (f := fun ty => ∑ tx : Fin 3, wt X S b y x ty tx) (fun ty _ => Finset.sum_nonneg fun tx _ => wt_nonneg X S b y x ty tx) (Finset.mem_univ 1)
  linarith

theorem Q_nonneg (S : Fin 16 → Fin 16 → Fin 4 → Fin 5 → ℝ) (b : Fin 4) (y x : ℕ) (ty tx : Fin 3) : 0 ≤ Q X S b y x ty tx :=
  div_nonneg (wt_nonneg ..) (Finset.sum_nonneg fun _ _ => Finset.sum_nonneg fun _ _ => wt_nonneg ..)

theorem den_nonneg (S : Fin 16 → Fin 16 → Fin 4 → Fin 5 → ℝ) (R J : Fin 16) (b : Fin 4) : 0 ≤ den X S R J b := by
  unfold den cd
  refine Finset.sum_nonneg fun r _ => Finset.sum_nonneg fun ty _ => ?_
  split
  · refine Finset.sum_nonneg fun yy _ => Finset.sum_nonneg fun tx _ => Finset.sum_nonneg fun x _ => ?_
    split
    · exact Q_nonneg ..
    · exact le_rfl
  · exact le_rfl

end Cert.Spec

end
-- ==== Proof.RefIndex.lean ====
/- What the reference's loop starts from: which superpixel each pixel's neighbours are, which exist, and the pixels in rows. -/
module

public import proofs.«01_k».proof.Proof.RefFrame
public import proofs.«01_k».proof.Proof.Spec
public import Idealize.ShloMosaic.Lib.Pipeline.Value
public import Idealize.ShloMosaic.Lib.Pointwise

@[expose] public section

set_option maxRecDepth 16384

noncomputable section

namespace Cert.ReferenceIdeal.Proof

open Idealize.ShloMosaic Idealize.ShloMosaic.StableHlo Idealize.ShloMosaic.Tactic Idealize.SL.Sem
open Cert.ReferenceIdeal Cert.ReferenceIdeal.Gen Cert.ReferenceIdeal.Value
open Cert.Spec
open TcCoe

/-! ## The words -/

/-- The row, or column, of superpixels a neighbour is in, before the ends are cut. -/
def raw (t y : ℕ) : BitVec 32 := (BitVec.ofNat 32 t - 1#32) + IntOp.divsi .host (BitVec.ofNat 32 y) 24#32

theorem raw_eq (t : Fin 3) (y : Fin 384) : raw t.val y.val = (BitVec.ofNat 32 t.val - 1#32) + BitVec.ofNat 32 (y.val / 24) := by
  have h : ∀ y : Fin 384, (BitVec.ofNat 32 y.val).sdiv 24#32 = BitVec.ofNat 32 (y.val / 24) := by decide +kernel
  unfold raw
  congr 1
  rw [← h y]
  unfold IntOp.divsi
  exact if_neg (by simp [IntOp.SDivCorner])

theorem cut_eq (t : Fin 3) (y : Fin 384) : IntOp.minsi (IntOp.maxsi (raw t.val y.val) 0#32) 15#32 = BitVec.ofNat 32 (near (y.val / 24) t).val := by
  have h : ∀ (t : Fin 3) (r : Fin 16), IntOp.minsi (IntOp.maxsi ((BitVec.ofNat 32 t.val - 1#32) + BitVec.ofNat 32 r.val) 0#32) 15#32 = BitVec.ofNat 32 (near r.val t).val := by decide +kernel
  rw [raw_eq]
  exact h t ⟨y.val / 24, by omega⟩

theorem in_eq (t : Fin 3) (y : Fin 384) : IntOp.andi (IntOp.cmpi .sge (raw t.val y.val) 0#32) (IntOp.cmpi .slt (raw t.val y.val) 16#32) = if inside (y.val / 24) t then 1#1 else 0#1 := by
  have h : ∀ (t : Fin 3) (r : Fin 16), IntOp.andi (IntOp.cmpi .sge ((BitVec.ofNat 32 t.val - 1#32) + BitVec.ofNat 32 r.val) 0#32) (IntOp.cmpi .slt ((BitVec.ofNat 32 t.val - 1#32) + BitVec.ofNat 32 r.val) 16#32)
      = if inside r.val t then 1#1 else 0#1 := by decide +kernel
  rw [raw_eq]
  exact h t ⟨y.val / 24, by omega⟩

/-! ## The arrays -/

section
variable (m : (ℓ : Loc nD τ sig) → Buf (Elt Ideal) ℓ) (c : Dev nD)

/-- The contents the loop starts from. -/
abbrev E0 : Valuation τ sig (Elt Ideal) := entryContents preI m c

def rawRow : IVec S3x384 32 := addi (broadcastInDim S3x384 ![0, 1] bcast_S3x1_S3x384_0_1 (broadcastInDim S3x1 ![0] bcast_S3_S3x1_0 (subi (iotaInDim S3 32 0) (broadcastInDim S3 ![] bcast_S_S3 (constantI S_ 32 1#32)))))
  (broadcastInDim S3x384 ![0, 1] bcast_S1x384_S3x384_0_1 (broadcastInDim S1x384 ![1] bcast_S384_S1x384_1 (Host.divsi (iotaInDim S384 32 0) (broadcastInDim S384 ![] bcast_S_S384 (constantI S_ 32 24#32)))))
def cutRow : IVec S3x384 32 := minsi (maxsi rawRow (broadcastInDim S3x384 ![] bcast_S_S3x384 (constantI S_ 32 0#32))) (broadcastInDim S3x384 ![] bcast_S_S3x384 (constantI S_ 32 15#32))
def inRow : IVec S3x384 1 := andi (cmpi .sge rawRow (broadcastInDim S3x384 ![] bcast_S_S3x384 (constantI S_ 32 0#32))) (cmpi .slt rawRow (broadcastInDim S3x384 ![] bcast_S_S3x384 (constantI S_ 32 16#32)))
def nearMap : IVec S3x3x384x384 32 := addi (broadcastInDim S3x3x384x384 ![0, 1, 2, 3] bcast_S3x1x384x1_S3x3x384x384_0_1_2_3
    (muli (broadcastInDim S3x1x384x1 ![0, 2] bcast_S3x384_S3x1x384x1_0_2 cutRow) (broadcastInDim S3x1x384x1 ![] bcast_S_S3x1x384x1 (constantI S_ 32 16#32))))
  (broadcastInDim S3x3x384x384 ![0, 1, 2, 3] bcast_S1x3x1x384_S3x3x384x384_0_1_2_3 (broadcastInDim S1x3x1x384 ![1, 3] bcast_S3x384_S1x3x1x384_1_3 cutRow))
def inMap : IVec S3x3x384x384 1 := andi (broadcastInDim S3x3x384x384 ![0, 1, 2, 3] bcast_S3x1x384x1_S3x3x384x384_0_1_2_3 (broadcastInDim S3x1x384x1 ![0, 2] bcast_S3x384_S3x1x384x1_0_2 inRow))
  (broadcastInDim S3x3x384x384 ![0, 1, 2, 3] bcast_S1x3x1x384_S3x3x384x384_0_1_2_3 (broadcastInDim S1x3x1x384 ![1, 3] bcast_S3x384_S1x3x1x384_1_3 inRow))
/-- The superpixel of each neighbour of each pixel. -/
def idxMap : IVec S9x147456 32 := shapeCast S9x147456 nearMap shapeCasts_S3x3x384x384_S9x147456
def validMap : IVec S9x147456x4 1 := broadcastInDim S9x147456x4 ![0, 1, 2] bcast_S9x147456x1_S9x147456x4_0_1_2 (broadcastInDim S9x147456x1 ![0, 1] bcast_S9x147456_S9x147456x1_0_1 (shapeCast S9x147456 inMap shapeCasts_S3x3x384x384_S9x147456))
def pixMap (x : FVec Ideal S4x5x384x384 .f32) : FVec Ideal S147456x4x5 .f32 := transpose S147456x4x5 [2, 0, 1] (shapeCast S4x5x147456 x shapeCasts_S4x5x384x384_S4x5x147456) transposes_S4x5x147456_S147456x4x5_2_0_1
def ownMap : IVec S147456 32 := shapeCast S147456 (extractStridedSlice S1x147456 ![4, 0] idxMap slices_S9x147456_S1x147456_4_0) shapeCasts_S1x147456_S147456
def firstMeans (p : FVec Ideal S147456x4x5 .f32) : FVec Ideal S256x4x5 .f32 :=
  Host.divf (Host.scatterAdd scatter_S256x4x5_S147456x1_S147456x4x5_12_0_0_1 (broadcastInDim S256x4x5 ![] bcast_S_S256x4x5 (constant S_ .f32 0x00000000#32)) (broadcastInDim S147456x1 ![0] bcast_S147456_S147456x1_0 ownMap) p)
    (broadcastInDim S256x4x5 ![0, 1, 2] bcast_S256x1x1_S256x4x5_0_1_2 (broadcastInDim S256x1x1 ![0] bcast_S256_S256x1x1_0
      (maximumf (Host.scatterAdd scatter_S256_S147456x1_S147456_n_0_0_1 (broadcastInDim S256 ![] bcast_S_S256 (constant S_ .f32 0x00000000#32)) (broadcastInDim S147456x1 ![0] bcast_S147456_S147456x1_0 ownMap)
        (broadcastInDim S147456 ![] bcast_S_S147456 (constant S_ .f32 0x3F800000#32))) (broadcastInDim S256 ![] bcast_S_S256 (constant S_ .f32 0x3F800000#32)))))

set_option maxHeartbeats 4000000 in
theorem entry0 : E0 m c (Proc.devRef .tc main_v70_0) = idxMap := by
  show after hostOps0 (launchContents m c) (Proc.devRef .tc main_v70_0) = _
  after_results
  rfl
set_option maxHeartbeats 4000000 in
theorem entry1 : E0 m c (Proc.devRef .tc main_v70_1) = pixMap (m ((c.tc : Thread nD τ).loc main_arg0)) := by
  show after hostOps0 (launchContents m c) (Proc.devRef .tc main_v70_1) = _
  after_results
  rfl
set_option maxHeartbeats 4000000 in
theorem entry2 : E0 m c (Proc.devRef .tc main_v70_2) = validMap := by
  show after hostOps0 (launchContents m c) (Proc.devRef .tc main_v70_2) = _
  after_results
  rfl
set_option maxHeartbeats 4000000 in
theorem entry5 : E0 m c (Proc.devRef .tc main_v70_5) = firstMeans (pixMap (m ((c.tc : Thread nD τ).loc main_arg0))) := by
  show after hostOps0 (launchContents m c) (Proc.devRef .tc main_v70_5) = _
  after_results
  rfl
end

/-! ## Their elements -/

/-- The position of a neighbour among nine, and of a pixel among all. -/
abbrev nb (ty tx : Fin 3) : Fin 9 := ⟨3 * ty.val + tx.val, by omega⟩
abbrev px (y x : Fin 384) : Fin 147456 := ⟨384 * y.val + x.val, by omega⟩

theorem rawRow_at (t : Fin 3) (y : Fin 384) : rawRow (ix2 t y) = raw t.val y.val := by
  pointwise [rawRow]
  rfl
theorem cutRow_at (t : Fin 3) (y : Fin 384) : cutRow (ix2 t y) = BitVec.ofNat 32 (near (y.val / 24) t).val := by
  rw [← cut_eq, ← rawRow_at]
  pointwise [cutRow]
theorem inRow_at (t : Fin 3) (y : Fin 384) : inRow (ix2 t y) = if inside (y.val / 24) t then 1#1 else 0#1 := by
  rw [← in_eq, ← rawRow_at]
  pointwise [inRow]

theorem nearMap_at (ty tx : Fin 3) (y x : Fin 384) : nearMap (ix4 ty tx y x) = BitVec.ofNat 32 (16 * (near (y.val / 24) ty).val + (near (x.val / 24) tx).val) := by
  have h : nearMap (ix4 ty tx y x) = cutRow (ix2 ty y) * 16#32 + cutRow (ix2 tx x) := by
    pointwise [nearMap]
    rfl
  rw [h, cutRow_at, cutRow_at]
  have h2 : ∀ a b : Fin 16, BitVec.ofNat 32 a.val * 16#32 + BitVec.ofNat 32 b.val = BitVec.ofNat 32 (16 * a.val + b.val) := by decide +kernel
  exact h2 _ _

theorem inMap_at (ty tx : Fin 3) (y x : Fin 384) : inMap (ix4 ty tx y x) = if inside (y.val / 24) ty ∧ inside (x.val / 24) tx then 1#1 else 0#1 := by
  have h : inMap (ix4 ty tx y x) = inRow (ix2 ty y) &&& inRow (ix2 tx x) := by
    pointwise [inMap]
    rfl
  rw [h, inRow_at, inRow_at]
  by_cases h1 : inside (y.val / 24) ty <;> by_cases h2 : inside (x.val / 24) tx <;> simp [h1, h2]

theorem idxMap_at (ty tx : Fin 3) (y x : Fin 384) : idxMap (ix2 (nb ty tx) (px y x)) = BitVec.ofNat 32 (16 * (near (y.val / 24) ty).val + (near (x.val / 24) tx).val) := by
  rw [← nearMap_at]
  refine shapeCast_apply _ _ _ _ ?_
  rw [Shape.rowMajor_val_four, Shape.rowMajor_val_two]
  show ((ty.val * 3 + tx.val) * 384 + y.val) * 384 + x.val = (3 * ty.val + tx.val) * 147456 + (384 * y.val + x.val)
  omega

theorem validMap_at (ty tx : Fin 3) (y x : Fin 384) (b : Fin 4) : validMap (ix3 (nb ty tx) (px y x) b) = if inside (y.val / 24) ty ∧ inside (x.val / 24) tx then 1#1 else 0#1 := by
  rw [← inMap_at]
  have h : validMap (ix3 (nb ty tx) (px y x) b) = shapeCast S9x147456 inMap shapeCasts_S3x3x384x384_S9x147456 (ix2 (nb ty tx) (px y x)) := by
    unfold validMap
    refine (broadcastInDim_apply _ _ _ _ (ix3 (nb ty tx) (px y x) (0 : Fin 1)) (by intro a; match a with | ⟨0, _⟩ => rfl | ⟨1, _⟩ => rfl | ⟨2, _⟩ => rfl)).trans ?_
    exact broadcastInDim_apply _ _ _ _ (ix2 (nb ty tx) (px y x)) (by intro a; match a with | ⟨0, _⟩ => rfl | ⟨1, _⟩ => rfl)
  rw [h]
  refine shapeCast_apply _ _ _ _ ?_
  rw [Shape.rowMajor_val_four, Shape.rowMajor_val_two]
  show ((ty.val * 3 + tx.val) * 384 + y.val) * 384 + x.val = (3 * ty.val + tx.val) * 147456 + (384 * y.val + x.val)
  omega

theorem pixMap_at (v : FVec Ideal S4x5x384x384 .f32) (y x : Fin 384) (b : Fin 4) (ch : Fin 5) : pixMap v (ix3 (px y x) b ch) = v (ix4 b ch y x) := by
  unfold pixMap
  refine (transpose_apply _ _ _ _ (ix3 b ch (px y x)) (by intro a; match a with | ⟨0, _⟩ => rfl | ⟨1, _⟩ => rfl | ⟨2, _⟩ => rfl)).trans ?_
  refine shapeCast_apply _ _ _ _ ?_
  rw [Shape.rowMajor_val_four, Shape.rowMajor_val_three]
  show ((b.val * 5 + ch.val) * 384 + y.val) * 384 + x.val = (b.val * 5 + ch.val) * 147456 + (384 * y.val + x.val)
  omega

theorem ownMap_at (y x : Fin 384) : ownMap (ix1 (px y x)) = BitVec.ofNat 32 (16 * (near (y.val / 24) 1).val + (near (x.val / 24) 1).val) := by
  rw [← idxMap_at 1 1]
  unfold ownMap
  refine (shapeCast_apply _ _ _ (ix2 (0 : Fin 1) (px y x)) (by rw [Shape.rowMajor_val_one, Shape.rowMajor_val_two]; show 0 * 147456 + (px y x).val = (px y x).val; omega)).trans ?_
  exact extractStridedSlice_apply _ _ _ _ (ix2 (nb 1 1) (px y x)) (by intro a; match a with | ⟨0, _⟩ => rfl | ⟨1, _⟩ => (show (px y x).val = 0 + (px y x).val; omega))

end Cert.ReferenceIdeal.Proof

end
-- ==== Proof.Softmax.lean ====
module

public import Idealize.ShloMosaic.PureOps.Ideal
public import Idealize.ShloMosaic.PureOps.Ideal.Laws
public import Mathlib.Analysis.SpecialFunctions.Log.Basic
public import Mathlib.Analysis.SpecialFunctions.Pow.Real

@[expose] public section

noncomputable section

/- Weights over nine neighbours at the extended reals: any shift by the largest gives the same shares. -/
namespace Cert.Softmax

open Idealize.ShloMosaic

theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A sum against a table row with a single one in it. -/
theorem sum_pick {ι : Type*} [Fintype ι] [DecidableEq ι] (a : ι) (f : ι → EReal) :
    (∑ k : ι, f k * (if a = k then 1 else 0)) = f a := by
  simp [mul_ite]

/-- A number that is neither end is a real. -/
theorem real_of_ne {x : EReal} (h1 : x ≠ ⊥) (h2 : x ≠ ⊤) : ∃ r : ℝ, x = (r : EReal) := ⟨x.toReal, (EReal.coe_toReal h2 h1).symm⟩

/-- The largest of nine. -/
def mx9 (n : Fin 3 → Fin 3 → EReal) : EReal :=
  max (max (max (max (max (max (max (max (n 0 0) (n 0 1)) (n 0 2)) (n 1 0)) (n 1 1)) (n 1 2)) (n 2 0)) (n 2 1)) (n 2 2)
/-- The sum of nine, in order. -/
def sm9 (n : Fin 3 → Fin 3 → EReal) : EReal := n 0 0 + n 0 1 + n 0 2 + n 1 0 + n 1 1 + n 1 2 + n 2 0 + n 2 1 + n 2 2

theorem sm9_coe (w : Fin 3 → Fin 3 → ℝ) : sm9 (fun ty tx => ((w ty tx : ℝ) : EReal)) = ((∑ ty, ∑ tx, w ty tx : ℝ) : EReal) := by
  simp only [sm9, Fin.sum_univ_three, ← EReal.coe_add]
  congr 1; ring

section
variable (v : Fin 3 → Fin 3 → Prop) [∀ ty tx, Decidable (v ty tx)] (a : Fin 3 → Fin 3 → ℝ)

theorem mx9_real (n : Fin 3 → Fin 3 → EReal) (ht : ∀ ty tx, n ty tx ≠ ⊤) (hb : n 1 1 ≠ ⊥) : ∃ m : ℝ, mx9 n = (m : EReal) := by
  refine real_of_ne ?_ ?_
  · intro h
    apply hb
    have : n 1 1 ≤ mx9 n := by simp [mx9]
    rw [h] at this
    exact le_bot_iff.mp this
  · unfold mx9
    refine ne_of_lt (b := ⊤) ?_
    have h := fun ty tx => (ht ty tx).lt_top
    exact max_lt (max_lt (max_lt (max_lt (max_lt (max_lt (max_lt (max_lt (h 0 0) (h 0 1)) (h 0 2)) (h 1 0)) (h 1 1)) (h 1 2)) (h 2 0)) (h 2 1)) (h 2 2)

/-- An exponential of base two, of a scaled exponent. -/
theorem exp2_sub (p : Prop) [Decidable p] (x m : ℝ) :
    Ideal.exp2 ((if p then (((Real.log 2)⁻¹ * x : ℝ) : EReal) else ⊥) - (m : EReal))
      = (((if p then Real.exp x else 0) * Real.exp (-(m * Real.log 2)) : ℝ) : EReal) := by
  split
  · rw [← EReal.coe_sub, Ideal.exp2_coe]
    congr 1
    have h2 : Real.log 2 ≠ 0 := (Real.log_pos (by norm_num)).ne'
    show (2 : ℝ) ^ ((Real.log 2)⁻¹ * x - m) = _
    rw [Real.rpow_def_of_pos (by norm_num), ← Real.exp_add]
    congr 1
    field_simp
    ring
  · rw [EReal.bot_sub, Ideal.exp2_bot, zero_mul, EReal.coe_zero]

/-- An exponential of a masked exponent. -/
theorem exp_sub (p : Prop) [Decidable p] (x m : ℝ) :
    Ideal.exp ((if p then ((x : ℝ) : EReal) else ⊥) - (m : EReal)) = (((if p then Real.exp x else 0) * Real.exp (-m) : ℝ) : EReal) := by
  split
  · rw [← EReal.coe_sub, Ideal.exp_coe, ← Real.exp_add, sub_eq_add_neg]
  · rw [EReal.bot_sub, Ideal.exp_bot, zero_mul, EReal.coe_zero]

/-- The kernel's form: exponentials of base two, and a reciprocal of their sum. -/
theorem shares (n : Fin 3 → Fin 3 → EReal)
    (hn : ∀ ty tx, n ty tx = if v ty tx then (((Real.log 2)⁻¹ * a ty tx : ℝ) : EReal) else ⊥) (hv : v 1 1) :
    ∃ k : ℝ, 0 < k ∧ (∀ ty tx, Ideal.exp2 (n ty tx - mx9 n) = (((if v ty tx then Real.exp (a ty tx) else 0) * k : ℝ) : EReal)) ∧
      Ideal.div 1 (sm9 fun ty tx => Ideal.exp2 (n ty tx - mx9 n))
        = ((1 / ((∑ ty, ∑ tx, if v ty tx then Real.exp (a ty tx) else 0) * k) : ℝ) : EReal) := by
  obtain ⟨m, hm⟩ := mx9_real n (fun ty tx => by rw [hn]; split <;> simp [-EReal.coe_mul]) (by rw [hn, if_pos hv]; simp [-EReal.coe_mul])
  refine ⟨Real.exp (-(m * Real.log 2)), Real.exp_pos _, fun ty tx => by rw [hn, hm, exp2_sub], ?_⟩
  have hs : (sm9 fun ty tx => Ideal.exp2 (n ty tx - mx9 n))
      = (((∑ ty, ∑ tx, if v ty tx then Real.exp (a ty tx) else 0) * Real.exp (-(m * Real.log 2)) : ℝ) : EReal) := by
    rw [Finset.sum_mul]
    simp only [Finset.sum_mul]
    rw [← sm9_coe fun ty tx => (if v ty tx then Real.exp (a ty tx) else 0) * Real.exp (-(m * Real.log 2))]
    congr 1; funext ty tx; rw [hn, hm, exp2_sub]
  have hp : 0 < ∑ ty, ∑ tx, if v ty tx then Real.exp (a ty tx) else 0 := by
    have h0 : ∀ ty tx, 0 ≤ (if v ty tx then Real.exp (a ty tx) else 0) := fun ty tx => by
      split
      · exact (Real.exp_pos _).le
      · exact le_rfl
    refine lt_of_lt_of_le ?_ (Finset.single_le_sum (fun ty _ => Finset.sum_nonneg fun tx _ => h0 ty tx) (Finset.mem_univ (1 : Fin 3)))
    refine lt_of_lt_of_le ?_ (Finset.single_le_sum (fun tx _ => h0 1 tx) (Finset.mem_univ (1 : Fin 3)))
    rw [if_pos hv]; exact Real.exp_pos _
  rw [hs, Ideal.div_coe (mul_pos hp (Real.exp_pos _)).ne', one_mul]
end

end Cert.Softmax

end
-- ==== Proof.RefSums.lean ====
/- The reference's sums by segment, its row look-ups, and sums over all pixels and neighbours. -/
module

public import proofs.«01_k».proof.Proof.RefIndex
public import proofs.«01_k».proof.Proof.Softmax

@[expose] public section

set_option maxRecDepth 16384

noncomputable section

namespace Cert.ReferenceIdeal.Proof

open Idealize.ShloMosaic Idealize.ShloMosaic.StableHlo Idealize.ShloMosaic.Tactic Idealize.SL.Sem
open Cert.ReferenceIdeal Cert.ReferenceIdeal.Gen Cert.ReferenceIdeal.Value
open Cert.Spec
open TcCoe

/-- A word below `2 ^ 31`, read signed. -/
theorem toInt_small (n : ℕ) (h : n < 256) : (BitVec.ofNat 32 n).toInt = n :=
  (by decide +kernel : ∀ n : Fin 256, (BitVec.ofNat 32 n.val).toInt = n.val) ⟨n, h⟩

/-! ## Where an update lands -/

section
variable {N : ℕ}

theorem land {s u : Shape} (d : ScatterDims s ⟨2, ![N, 1]⟩ u) (idx : IVec ⟨2, ![N, 1]⟩ 32) (j : u.Idx) (i : s.Idx) (n : Fin s.rank → ℕ)
    (hn : ∀ a, d.start j idx a + d.window j a = n a) : d.resultIdx? j idx = some i ↔ ∀ a, n a = (i a).val := by
  unfold ScatterDims.resultIdx?
  split
  · next h =>
    rw [Option.some_inj]
    constructor
    · intro e a
      have := congrArg Fin.val (congrFun e a)
      change (d.start j idx a + d.window j a).toNat = (i a).val at this
      rw [hn] at this
      simpa using this
    · intro e
      funext a
      apply Fin.ext
      show (d.start j idx a + d.window j a).toNat = (i a).val
      rw [hn, ← e a]
      simp
  · next h =>
    refine ⟨fun e => (by cases e), fun e => (h fun a => ?_).elim⟩
    rw [hn, e a]
    exact ⟨by omega, by exact_mod_cast (i a).isLt⟩

abbrev dims1 (wf : ScatterDims.WF ⟨1, ![256]⟩ ⟨2, ![N, 1]⟩ ⟨1, ![N]⟩ [] [0] [0] 1) : ScatterDims ⟨1, ![256]⟩ ⟨2, ![N, 1]⟩ ⟨1, ![N]⟩ where
  updateWindowDims := []
  insertedWindowDims := [0]
  scatterDimsToOperandDims := [0]
  indexVectorDim := 1
  wf := wf
abbrev dims2 (wf : ScatterDims.WF ⟨2, ![256, 4]⟩ ⟨2, ![N, 1]⟩ ⟨2, ![N, 4]⟩ [1] [0] [0] 1) : ScatterDims ⟨2, ![256, 4]⟩ ⟨2, ![N, 1]⟩ ⟨2, ![N, 4]⟩ where
  updateWindowDims := [1]
  insertedWindowDims := [0]
  scatterDimsToOperandDims := [0]
  indexVectorDim := 1
  wf := wf
abbrev dims3 (wf : ScatterDims.WF ⟨3, ![256, 4, 5]⟩ ⟨2, ![N, 1]⟩ ⟨3, ![N, 4, 5]⟩ [1, 2] [0] [0] 1) : ScatterDims ⟨3, ![256, 4, 5]⟩ ⟨2, ![N, 1]⟩ ⟨3, ![N, 4, 5]⟩ where
  updateWindowDims := [1, 2]
  insertedWindowDims := [0]
  scatterDimsToOperandDims := [0]
  indexVectorDim := 1
  wf := wf

variable (idx : IVec ⟨2, ![N, 1]⟩ 32) (n : Fin N → ℕ) (hn : ∀ q, n q < 256) (hi : ∀ q, idx (ix2 q (0 : Fin 1)) = BitVec.ofNat 32 (n q))
include hn hi

theorem cell (q : Fin N) : (idx (ix2 q (0 : Fin 1))).toInt = n q := by rw [hi, toInt_small _ (hn _)]

theorem sum1 (wf) (v : FVec Ideal ⟨1, ![256]⟩ .f32) (u : FVec Ideal ⟨1, ![N]⟩ .f32) (i : Fin 256) :
    Host.scatterAdd (F := Ideal) (φ := .f32) (dims1 (N := N) wf) v idx u (ix1 i) = v (ix1 i) + ∑ q : Fin N, if n q = i.val then u (ix1 q) else 0 := by
  show Ideal.hostScatterAdd (dims1 (N := N) wf) v idx u (ix1 i) = _
  have hl : ∀ j : (⟨1, ![N]⟩ : Shape).Idx, (dims1 (N := N) wf).resultIdx? j idx = some (ix1 i) ↔ n (j 0) = i.val := by
    intro j
    rw [land (dims1 wf) idx j (ix1 i) (fun _ => n (j 0)) (fun a => by
      match a with
      | ⟨0, _⟩ =>
        have h0 : (dims1 (N := N) wf).start j idx 0 = (idx (ix2 (j 0) (0 : Fin 1))).toInt := by
          refine congrArg (fun k => (idx k).toInt) (funext fun b => ?_)
          match b with
          | ⟨0, _⟩ => rfl
          | ⟨1, _⟩ => rfl
        exact (congrArg (· + ((0 : ℕ) : ℤ)) (h0.trans (cell idx n hn hi (j 0)))).trans (Int.add_zero _))]
    exact ⟨fun h => h 0, fun h a => by match a with | ⟨0, _⟩ => exact h⟩
  unfold Ideal.hostScatterAdd
  congr 1
  rw [← Finset.sum_filter]
  refine Finset.sum_nbij' (fun j => j 0) (fun q => ix1 q) ?_ ?_ ?_ ?_ ?_
  · intro j hj
    exact Finset.mem_filter.mpr ⟨Finset.mem_univ _, (hl j).mp (Finset.mem_filter.mp hj).2⟩
  · intro q hq
    exact Finset.mem_filter.mpr ⟨Finset.mem_univ _, (hl _).mpr (Finset.mem_filter.mp hq).2⟩
  · intro j hj
    funext a; match a with | ⟨0, _⟩ => rfl
  · intro q hq; rfl
  · intro j hj
    exact congrArg u (funext fun a => by match a with | ⟨0, _⟩ => rfl)

theorem sum2 (wf) (v : FVec Ideal ⟨2, ![256, 4]⟩ .f32) (u : FVec Ideal ⟨2, ![N, 4]⟩ .f32) (i : Fin 256) (b : Fin 4) :
    Host.scatterAdd (F := Ideal) (φ := .f32) (dims2 (N := N) wf) v idx u (ix2 i b) = v (ix2 i b) + ∑ q : Fin N, if n q = i.val then u (ix2 q b) else 0 := by
  show Ideal.hostScatterAdd (dims2 (N := N) wf) v idx u (ix2 i b) = _
  have hl : ∀ j : (⟨2, ![N, 4]⟩ : Shape).Idx, (dims2 (N := N) wf).resultIdx? j idx = some (ix2 i b) ↔ n (j 0) = i.val ∧ j 1 = b := by
    intro j
    rw [land (dims2 wf) idx j (ix2 i b) (fun a => match a with | ⟨0, _⟩ => n (j 0) | ⟨1, _⟩ => (j 1).val) (fun a => by
      match a with
      | ⟨0, _⟩ =>
        have h0 : (dims2 (N := N) wf).start j idx 0 = (idx (ix2 (j 0) (0 : Fin 1))).toInt := by
          refine congrArg (fun k => (idx k).toInt) (funext fun b => ?_)
          match b with
          | ⟨0, _⟩ => rfl
          | ⟨1, _⟩ => rfl
        exact (congrArg (· + ((0 : ℕ) : ℤ)) (h0.trans (cell idx n hn hi (j 0)))).trans (Int.add_zero _)
      | ⟨1, _⟩ =>
        show (0 : ℤ) + (((j 1).val : ℕ) : ℤ) = _
        simp)]
    exact ⟨fun h => ⟨h 0, Fin.ext (h 1)⟩, fun h a => by match a with | ⟨0, _⟩ => exact h.1 | ⟨1, _⟩ => exact congrArg Fin.val h.2⟩
  unfold Ideal.hostScatterAdd
  congr 1
  rw [← Finset.sum_filter]
  refine Finset.sum_nbij' (fun j => j 0) (fun q => ix2 q b) ?_ ?_ ?_ ?_ ?_
  · intro j hj
    exact Finset.mem_filter.mpr ⟨Finset.mem_univ _, ((hl j).mp (Finset.mem_filter.mp hj).2).1⟩
  · intro q hq
    exact Finset.mem_filter.mpr ⟨Finset.mem_univ _, (hl _).mpr ⟨(Finset.mem_filter.mp hq).2, rfl⟩⟩
  · intro j hj
    have h := (hl j).mp (Finset.mem_filter.mp hj).2
    funext a; match a with | ⟨0, _⟩ => rfl | ⟨1, _⟩ => exact h.2.symm
  · intro q hq; rfl
  · intro j hj
    have h := (hl j).mp (Finset.mem_filter.mp hj).2
    exact congrArg u (funext fun a => by match a with | ⟨0, _⟩ => rfl | ⟨1, _⟩ => exact h.2)

theorem sum3 (wf) (v : FVec Ideal ⟨3, ![256, 4, 5]⟩ .f32) (u : FVec Ideal ⟨3, ![N, 4, 5]⟩ .f32) (i : Fin 256) (b : Fin 4) (ch : Fin 5) :
    Host.scatterAdd (F := Ideal) (φ := .f32) (dims3 (N := N) wf) v idx u (ix3 i b ch) = v (ix3 i b ch) + ∑ q : Fin N, if n q = i.val then u (ix3 q b ch) else 0 := by
  show Ideal.hostScatterAdd (dims3 (N := N) wf) v idx u (ix3 i b ch) = _
  have hl : ∀ j : (⟨3, ![N, 4, 5]⟩ : Shape).Idx, (dims3 (N := N) wf).resultIdx? j idx = some (ix3 i b ch) ↔ n (j 0) = i.val ∧ j 1 = b ∧ j 2 = ch := by
    intro j
    rw [land (dims3 wf) idx j (ix3 i b ch) (fun a => match a with | ⟨0, _⟩ => n (j 0) | ⟨1, _⟩ => (j 1).val | ⟨2, _⟩ => (j 2).val) (fun a => by
      match a with
      | ⟨0, _⟩ =>
        have h0 : (dims3 (N := N) wf).start j idx 0 = (idx (ix2 (j 0) (0 : Fin 1))).toInt := by
          refine congrArg (fun k => (idx k).toInt) (funext fun b => ?_)
          match b with
          | ⟨0, _⟩ => rfl
          | ⟨1, _⟩ => rfl
        exact (congrArg (· + ((0 : ℕ) : ℤ)) (h0.trans (cell idx n hn hi (j 0)))).trans (Int.add_zero _)
      | ⟨1, _⟩ =>
        show (0 : ℤ) + (((j 1).val : ℕ) : ℤ) = _
        simp
      | ⟨2, _⟩ =>
        show (0 : ℤ) + (((j 2).val : ℕ) : ℤ) = _
        simp)]
    exact ⟨fun h => ⟨h 0, Fin.ext (h 1), Fin.ext (h 2)⟩, fun h a => by
      match a with | ⟨0, _⟩ => exact h.1 | ⟨1, _⟩ => exact congrArg Fin.val h.2.1 | ⟨2, _⟩ => exact congrArg Fin.val h.2.2⟩
  unfold Ideal.hostScatterAdd
  congr 1
  rw [← Finset.sum_filter]
  refine Finset.sum_nbij' (fun j => j 0) (fun q => ix3 q b ch) ?_ ?_ ?_ ?_ ?_
  · intro j hj
    exact Finset.mem_filter.mpr ⟨Finset.mem_univ _, ((hl j).mp (Finset.mem_filter.mp hj).2).1⟩
  · intro q hq
    exact Finset.mem_filter.mpr ⟨Finset.mem_univ _, (hl _).mpr ⟨(Finset.mem_filter.mp hq).2, rfl, rfl⟩⟩
  · intro j hj
    have h := (hl j).mp (Finset.mem_filter.mp hj).2
    funext a; match a with | ⟨0, _⟩ => rfl | ⟨1, _⟩ => exact h.2.1.symm | ⟨2, _⟩ => exact h.2.2.symm
  · intro q hq; rfl
  · intro j hj
    have h := (hl j).mp (Finset.mem_filter.mp hj).2
    exact congrArg u (funext fun a => by match a with | ⟨0, _⟩ => rfl | ⟨1, _⟩ => exact h.2.1 | ⟨2, _⟩ => exact h.2.2)
end

/-- A look-up of a superpixel's row. -/
theorem gather_at (v : FVec Ideal S256x4x5 .f32) (idx : IVec S9x147456x1 32) (k : Fin 9) (p : Fin 147456) (b : Fin 4) (ch : Fin 5) (n : Fin 256)
    (h : idx (ix3 k p (0 : Fin 1)) = BitVec.ofNat 32 n.val) :
    Host.gather gather_S256x4x5_S9x147456x1_S9x147456x4x5_23_0_n_n_0_2_145 v idx (ix4 k p b ch) = v (ix3 n b ch) := by
  unfold Host.gather
  refine congrArg v (funext fun a => Fin.ext ?_)
  match a with
  | ⟨0, _⟩ =>
    have h0 : gather_S256x4x5_S9x147456x1_S9x147456x4x5_23_0_n_n_0_2_145.start (ix4 k p b ch) idx 0 = min (idx (ix3 k p (0 : Fin 1))).toInt.toNat 255 := by
      refine congrArg (fun q => min (idx q).toInt.toNat 255) (funext fun b => ?_)
      match b with
      | ⟨0, _⟩ => rfl
      | ⟨1, _⟩ => rfl
      | ⟨2, _⟩ => rfl
    show gather_S256x4x5_S9x147456x1_S9x147456x4x5_23_0_n_n_0_2_145.start (ix4 k p b ch) idx 0 + 0 + 0 = n.val
    rw [h0, h, toInt_small _ n.isLt]
    show min n.val 255 + 0 + 0 = n.val
    omega
  | ⟨1, _⟩ => show 0 + 0 + b.val = b.val; omega
  | ⟨2, _⟩ => show 0 + 0 + ch.val = ch.val; omega

/-! ## Sums over pixels -/

theorem sum_split {M : Type*} [AddCommMonoid M] {a b N : ℕ} (h : a * b = N) (f : Fin N → M) :
    ∑ n : Fin N, f n = ∑ i : Fin a, ∑ j : Fin b, f ⟨b * i.val + j.val, by
      subst h
      calc b * i.val + j.val < b * i.val + b := by omega
        _ = b * (i.val + 1) := by ring
        _ ≤ b * a := Nat.mul_le_mul_left b i.isLt
        _ = a * b := mul_comm ..⟩ := by
  subst h
  rw [← finProdFinEquiv.sum_comp, Fintype.sum_prod_type]
  refine Finset.sum_congr rfl fun i _ => Finset.sum_congr rfl fun j _ => congrArg f (Fin.ext ?_)
  show j.val + b * i.val = b * i.val + j.val
  omega

theorem sum_px {M : Type*} [AddCommMonoid M] (f : Fin 147456 → M) : ∑ p, f p = ∑ y : Fin 384, ∑ x : Fin 384, f (px y x) :=
  sum_split (a := 384) (b := 384) (by norm_num) f
theorem sum_nb {M : Type*} [AddCommMonoid M] (f : Fin 9 → M) : ∑ k, f k = ∑ ty : Fin 3, ∑ tx : Fin 3, f (nb ty tx) :=
  sum_split (a := 3) (b := 3) (by norm_num) f
theorem sum_all {M : Type*} [AddCommMonoid M] (f : Fin 1327104 → M) :
    ∑ q, f q = ∑ ty : Fin 3, ∑ tx : Fin 3, ∑ y : Fin 384, ∑ x : Fin 384, f ⟨147456 * (nb ty tx).val + (px y x).val, by have := (nb ty tx).isLt; have := (px y x).isLt; omega⟩ := by
  rw [sum_split (a := 9) (b := 147456) (by norm_num) f, sum_nb]
  refine Finset.sum_congr rfl fun ty _ => Finset.sum_congr rfl fun tx _ => ?_
  rw [sum_px]

end Cert.ReferenceIdeal.Proof

end
-- ==== Proof.RefTrip.lean ====
/- One trip of the reference's loop, over the real numbers. -/
module

public import proofs.«01_k».proof.Proof.RefSums

@[expose] public section

set_option maxRecDepth 16384

noncomputable section

namespace Cert.ReferenceIdeal.Proof

open Idealize.ShloMosaic Idealize.ShloMosaic.StableHlo Idealize.ShloMosaic.Tactic Idealize.SL.Sem
open Cert.ReferenceIdeal Cert.ReferenceIdeal.Gen Cert.ReferenceIdeal.Value
open Cert.Spec
open TcCoe

theorem zero_bits : FloatOps.ofBits (F := Ideal) .f32 0x00000000#32 = (0 : EReal) := by
  show Ideal.ofBits .f32 0x00000000#32 = 0
  simp [Ideal.ofBits, Ideal.ieee]
theorem one_bits : FloatOps.ofBits (F := Ideal) .f32 0x3F800000#32 = (1 : EReal) := by
  show Ideal.ofBits .f32 0x3F800000#32 = ((1 : ℝ) : EReal)
  simp [Ideal.ofBits, Ideal.ieee, -EReal.coe_mul]; norm_num
theorem bot_bits : FloatOps.ofBits (F := Ideal) .f32 0xFF800000#32 = (⊥ : EReal) := by
  show Ideal.ofBits .f32 0xFF800000#32 = ⊥
  simp [Ideal.ofBits, Ideal.ieee]

/-! ## A running maximum -/

theorem fold_lt {α : Type*} (f : α → EReal) (hf : ∀ a, f a < ⊤) : ∀ (L : List α) (i : EReal), i < ⊤ → L.foldl (fun r a => max r (f a)) i < ⊤
  | [], i, hi => hi
  | a :: L, i, hi => fold_lt f hf L _ (max_lt hi (hf a))
theorem fold_ge_init {α : Type*} (f : α → EReal) : ∀ (L : List α) (i : EReal), i ≤ L.foldl (fun r a => max r (f a)) i
  | [], _ => le_rfl
  | a :: L, i => (le_max_left i (f a)).trans (fold_ge_init f L _)
theorem fold_ge {α : Type*} (f : α → EReal) : ∀ (L : List α) (i : EReal) (a : α), a ∈ L → f a ≤ L.foldl (fun r a => max r (f a)) i
  | b :: L, i, a, h => by
    rcases List.mem_cons.mp h with rfl | h
    · exact (le_max_right i (f a)).trans (fold_ge_init f L _)
    · exact fold_ge f L _ a h

/-- The largest of nine, one of which is a real number and none infinite. -/
theorem max_real (v : FVec Ideal S9x147456x4 .f32) (p : Fin 147456) (b : Fin 4) (hv : ∀ i, v i < (⊤ : EReal)) (k : Fin 9) (r : ℝ) (hk : v (ix3 k p b) = ((r : ℝ) : EReal)) :
    ∃ s : ℝ, Host.reduce (FloatOps.maximumf (F := Ideal) (φ := .f32)) v (constant S_ .f32 0xFF800000#32) reducesTo_S9x147456x4_S147456x4_d0 h_S_ (ix2 p b) = ((s : ℝ) : EReal) := by
  refine Softmax.real_of_ne ?_ ?_
  · have hm : S9x147456x4.rowMajor (ix3 k p b) ∈ (List.finRange S9x147456x4.numel).filter fun n => reducesTo_S9x147456x4_S147456x4_d0.drop (S9x147456x4.rowMajor.symm n) = ix2 p b := by
      refine List.mem_filter.mpr ⟨List.mem_finRange _, decide_eq_true ?_⟩
      rw [Equiv.symm_apply_apply]
      funext a
      match a with
      | ⟨0, _⟩ => rfl
      | ⟨1, _⟩ => rfl
    have h := fold_ge (fun n => (v (S9x147456x4.rowMajor.symm n) : EReal)) _ (FloatOps.ofBits (F := Ideal) .f32 0xFF800000#32) _ hm
    rw [Equiv.symm_apply_apply, hk] at h
    intro e
    exact absurd (h.trans (le_of_eq e)) (by simp)
  · refine ne_of_lt (fold_lt (fun n => (v (S9x147456x4.rowMajor.symm n) : EReal)) (fun n => hv _) _ _ ?_)
    show FloatOps.ofBits (F := Ideal) .f32 0xFF800000#32 < (⊤ : EReal)
    rw [bot_bits]
    exact bot_lt_top

section
variable (X : Fin 4 → Fin 5 → ℕ → ℕ → ℝ) (S : Fin 16 → Fin 16 → Fin 4 → Fin 5 → ℝ)

/-- The means' array holds `S`. -/
def IsMeans (v : FVec Ideal S256x4x5 .f32) : Prop := ∀ (R J : Fin 16) (b : Fin 4) (ch : Fin 5), v (ix3 (⟨16 * R.val + J.val, by omega⟩ : Fin 256) b ch) = ((S R J b ch : ℝ) : EReal)
/-- The pixels' array holds `X`. -/
def IsPix (p : FVec Ideal S147456x4x5 .f32) : Prop := ∀ (y x : Fin 384) (b : Fin 4) (ch : Fin 5), p (ix3 (px y x) b ch) = ((X b ch y.val x.val : ℝ) : EReal)

/-- What the loop carries. -/
structure At (V : Valuation τ sig (Elt Ideal)) : Prop where
  near : V (Proc.devRef .tc main_v70_0) = idxMap
  pix : IsPix X (V (Proc.devRef .tc main_v70_1))
  valid : V (Proc.devRef .tc main_v70_2) = validMap
  means : IsMeans S (V (Proc.devRef .tc main_v70_5))

/-- The steps of a trip, as extended reals. -/
abbrev w79 (V : Valuation τ sig (Elt Ideal)) : S9x147456x4x5.Idx → EReal := res_main_while0b_v79 V
abbrev w84 (V : Valuation τ sig (Elt Ideal)) : S9x147456x4.Idx → EReal := res_main_while0b_v84 V
abbrev w91 (V : Valuation τ sig (Elt Ideal)) : S9x147456x4.Idx → EReal := res_main_while0b_v91 V
abbrev w95 (V : Valuation τ sig (Elt Ideal)) : S9x147456x4.Idx → EReal := res_main_while0b_v95 V

/-- The largest logit, and the total, of each pixel, repeated over the nine. -/
def tops (u : FVec Ideal S9x147456x4 .f32) : FVec Ideal S9x147456x4 .f32 :=
  broadcastInDim S9x147456x4 ![0, 1, 2] bcast_S1x147456x4_S9x147456x4_0_1_2 (broadcastInDim S1x147456x4 ![1, 2] bcast_S147456x4_S1x147456x4_1_2 (maximumf (broadcastInDim S147456x4 ![] bcast_S_S147456x4 (constant S_ .f32 0xFF800000#32)) (Host.reduce FloatOps.maximumf u (constant S_ .f32 0xFF800000#32) reducesTo_S9x147456x4_S147456x4_d0 h_S_)))
def totals (u : FVec Ideal S9x147456x4 .f32) : FVec Ideal S9x147456x4 .f32 :=
  broadcastInDim S9x147456x4 ![0, 1, 2] bcast_S1x147456x4_S9x147456x4_0_1_2 (broadcastInDim S1x147456x4 ![1, 2] bcast_S147456x4_S1x147456x4_1_2 (Host.reduceAdd u (constant S_ .f32 0x00000000#32) reducesTo_S9x147456x4_S147456x4_d0 h_S_))
def squares (u : FVec Ideal S9x147456x4x5 .f32) : FVec Ideal S9x147456x4 .f32 := Host.reduceAdd (mulf u u) (constant S_ .f32 0x00000000#32) reducesTo_S9x147456x4x5_S9x147456x4_d3 h_S_

theorem max_bot {s : Shape} (u v : FVec Ideal s .f32) (i : s.Idx) (hu : u i = (⊥ : EReal)) : maximumf u v i = v i := by
  have e : maximumf u v i = max (u i : EReal) (v i) := rfl
  rw [e, hu]
  exact max_eq_right bot_le
theorem broadcast_fill {s : Shape} (h : S_.BroadcastsInDim s ![]) (w : BitVec 32) (i : s.Idx) :
    broadcastInDim s ![] h (constant (F := Ideal) S_ .f32 w) i = FloatOps.ofBits (F := Ideal) .f32 w := rfl

theorem squares_at (u : FVec Ideal S9x147456x4x5 .f32) (k : Fin 9) (p : Fin 147456) (b : Fin 4) :
    squares u (ix3 k p b) = FloatOps.ofBits (F := Ideal) .f32 0x00000000#32 + ∑ ch : Fin 5, (u (ix4 k p b ch) * u (ix4 k p b ch) : EReal) :=
  Ideal.hostReduceAdd_r4_a3 _ _ _ _
theorem totals_at (u : FVec Ideal S9x147456x4 .f32) (k : Fin 9) (p : Fin 147456) (b : Fin 4) :
    totals u (ix3 k p b) = FloatOps.ofBits (F := Ideal) .f32 0x00000000#32 + ∑ k : Fin 9, (u (ix3 k p b) : EReal) := by
  refine (broadcastInDim_apply _ _ _ _ (ix3 (0 : Fin 1) p b) (by intro a; match a with | ⟨0, _⟩ => rfl | ⟨1, _⟩ => rfl | ⟨2, _⟩ => rfl)).trans ?_
  refine (broadcastInDim_apply _ _ _ _ (ix2 p b) (by intro a; match a with | ⟨0, _⟩ => rfl | ⟨1, _⟩ => rfl)).trans ?_
  exact Ideal.hostReduceAdd_r3_a0 _ _ _ _
theorem tops_at (u : FVec Ideal S9x147456x4 .f32) (k : Fin 9) (p : Fin 147456) (b : Fin 4) :
    tops u (ix3 k p b) = Host.reduce (FloatOps.maximumf (F := Ideal) (φ := .f32)) u (constant S_ .f32 0xFF800000#32) reducesTo_S9x147456x4_S147456x4_d0 h_S_ (ix2 p b) := by
  refine (broadcastInDim_apply _ _ _ _ (ix3 (0 : Fin 1) p b) (by intro a; match a with | ⟨0, _⟩ => rfl | ⟨1, _⟩ => rfl | ⟨2, _⟩ => rfl)).trans ?_
  refine (broadcastInDim_apply _ _ _ _ (ix2 p b) (by intro a; match a with | ⟨0, _⟩ => rfl | ⟨1, _⟩ => rfl)).trans ?_
  exact max_bot _ _ _ (by rw [broadcast_fill]; exact bot_bits)

theorem w84_eq (V : Valuation τ sig (Elt Ideal)) (i : S9x147456x4.Idx) (c : BitVec 1) (hc : V (Proc.devRef .tc main_v70_2) i = c) :
    w84 V i = if c = 1#1 then (-(squares (w79 V) i) : EReal) else (⊥ : EReal) := by
  subst hc
  rw [← bot_bits]
  rfl
theorem w91_eq (V : Valuation τ sig (Elt Ideal)) (i : S9x147456x4.Idx) : w91 V i = Ideal.exp (w84 V i - tops (w84 V) i) := rfl
theorem div_at {s : Shape} (u v : FVec Ideal s .f32) (i : s.Idx) : Host.divf u v i = Ideal.div (u i) (v i) := rfl
theorem w95_eq (V : Valuation τ sig (Elt Ideal)) (i : S9x147456x4.Idx) : w95 V i = Ideal.div (w91 V i) (totals (w91 V) i) :=
  div_at (w91 V) (totals (w91 V)) i

variable {X S} {V : Valuation τ sig (Elt Ideal)} (h : At X S V)
include h

theorem v79_at (ty tx : Fin 3) (y x : Fin 384) (b : Fin 4) (ch : Fin 5) :
    w79 V (ix4 (nb ty tx) (px y x) b ch) = ((X b ch y.val x.val - S (near (y.val / 24) ty) (near (x.val / 24) tx) b ch : ℝ) : EReal) := by
  have e1 : broadcastInDim S9x147456x4x5 ![0, 1, 2, 3] bcast_S1x147456x4x5_S9x147456x4x5_0_1_2_3 (broadcastInDim S1x147456x4x5 ![1, 2, 3] bcast_S147456x4x5_S1x147456x4x5_1_2_3 (V (Proc.devRef .tc main_v70_1))) (ix4 (nb ty tx) (px y x) b ch)
      = ((X b ch y.val x.val : ℝ) : EReal) := by
    refine (broadcastInDim_apply _ _ _ _ (ix4 (0 : Fin 1) (px y x) b ch) (by intro a; match a with | ⟨0, _⟩ => rfl | ⟨1, _⟩ => rfl | ⟨2, _⟩ => rfl | ⟨3, _⟩ => rfl)).trans ?_
    exact (broadcastInDim_apply _ _ _ _ (ix3 (px y x) b ch) (by intro a; match a with | ⟨0, _⟩ => rfl | ⟨1, _⟩ => rfl | ⟨2, _⟩ => rfl)).trans (h.pix y x b ch)
  have e2 : Host.gather gather_S256x4x5_S9x147456x1_S9x147456x4x5_23_0_n_n_0_2_145 (V (Proc.devRef .tc main_v70_5)) (broadcastInDim S9x147456x1 ![0, 1] bcast_S9x147456_S9x147456x1_0_1 (V (Proc.devRef .tc main_v70_0))) (ix4 (nb ty tx) (px y x) b ch)
      = ((S (near (y.val / 24) ty) (near (x.val / 24) tx) b ch : ℝ) : EReal) := by
    refine (gather_at _ _ _ _ _ _ ⟨16 * (near (y.val / 24) ty).val + (near (x.val / 24) tx).val, by omega⟩ ?_).trans (h.means _ _ b ch)
    rw [h.near]
    exact (broadcastInDim_apply _ _ _ _ (ix2 (nb ty tx) (px y x)) (by intro a; match a with | ⟨0, _⟩ => rfl | ⟨1, _⟩ => rfl)).trans (idxMap_at ty tx y x)
  rw [EReal.coe_sub, ← e1, ← e2]
  rfl

theorem v84_at (ty tx : Fin 3) (y x : Fin 384) (b : Fin 4) :
    w84 V (ix3 (nb ty tx) (px y x) b) = if inside (y.val / 24) ty ∧ inside (x.val / 24) tx then ((logit X S b y.val x.val ty tx : ℝ) : EReal) else (⊥ : EReal) := by
  have e1 : squares (w79 V) (ix3 (nb ty tx) (px y x) b) = ((-logit X S b y.val x.val ty tx : ℝ) : EReal) := by
    rw [squares_at, zero_bits, zero_add]
    unfold logit
    rw [neg_neg, ← Softmax.coe_sum]
    refine Finset.sum_congr rfl fun ch _ => ?_
    rw [v79_at h, EReal.coe_mul]
  rw [w84_eq V _ _ ((congrFun h.valid _).trans (validMap_at ty tx y x b)), e1, ← EReal.coe_neg, neg_neg]
  by_cases hi : inside (y.val / 24) ty ∧ inside (x.val / 24) tx
  · rw [if_pos hi, if_pos hi]; exact if_pos rfl
  · rw [if_neg hi, if_neg hi]; exact if_neg (by decide)

theorem v91_at (y x : Fin 384) (b : Fin 4) :
    ∃ s : ℝ, ∀ ty tx : Fin 3, w91 V (ix3 (nb ty tx) (px y x) b) = ((wt X S b y.val x.val ty tx * Real.exp (-s) : ℝ) : EReal) := by
  have hlt : ∀ i, w84 V i < (⊤ : EReal) := by
    intro i
    have e : i = ix3 (nb ⟨(i 0).val / 3, by have := (i 0).isLt; change _ < 9 at this; omega⟩ ⟨(i 0).val % 3, by omega⟩)
        (px ⟨(i 1).val / 384, by have := (i 1).isLt; change _ < 147456 at this; omega⟩ ⟨(i 1).val % 384, by omega⟩) (i 2) := by
      funext a
      match a with
      | ⟨0, _⟩ => exact Fin.ext (show (i 0).val = 3 * ((i 0).val / 3) + (i 0).val % 3 by omega)
      | ⟨1, _⟩ => exact Fin.ext (show (i 1).val = 384 * ((i 1).val / 384) + (i 1).val % 384 by omega)
      | ⟨2, _⟩ => rfl
    refine lt_of_eq_of_lt ((congrArg (w84 V) e).trans (v84_at h _ _ _ _ _)) ?_
    split
    · exact EReal.coe_lt_top _
    · exact bot_lt_top
  obtain ⟨s, hs⟩ := max_real (w84 V) (px y x) b hlt (nb 1 1) (logit X S b y.val x.val 1 1) (by
    rw [v84_at h, if_pos ⟨inside_mid _ (by omega), inside_mid _ (by omega)⟩])
  refine ⟨s, fun ty tx => ?_⟩
  rw [w91_eq, tops_at, hs, v84_at h, Softmax.exp_sub]
  rfl

theorem v95_at (ty tx : Fin 3) (y x : Fin 384) (b : Fin 4) :
    w95 V (ix3 (nb ty tx) (px y x) b) = ((Q X S b y.val x.val ty tx : ℝ) : EReal) := by
  obtain ⟨s, hs⟩ := v91_at h y x b
  have hW := wt_total_pos X S b y.val x.val y.isLt x.isLt
  have e1 : totals (w91 V) (ix3 (nb ty tx) (px y x) b) = (((∑ ty' : Fin 3, ∑ tx' : Fin 3, wt X S b y.val x.val ty' tx') * Real.exp (-s) : ℝ) : EReal) := by
    rw [totals_at, zero_bits, zero_add, sum_nb, Finset.sum_mul]
    simp only [Finset.sum_mul]
    rw [← Softmax.coe_sum]
    refine Finset.sum_congr rfl fun ty' _ => ?_
    rw [← Softmax.coe_sum]
    exact Finset.sum_congr rfl fun tx' _ => hs ty' tx'
  have he := Real.exp_pos (-s)
  rw [w95_eq, e1, hs, Ideal.div_coe (mul_pos hW he).ne', ← EReal.coe_mul]
  refine congrArg Real.toEReal ?_
  unfold Q
  field_simp
end

end Cert.ReferenceIdeal.Proof

end
-- ==== Proof.Tables.lean ====
module

public import proofs.«01_k».proof.KernelIdeal
public import proofs.«01_k».proof.Proof.Spec

@[expose] public section

set_option maxRecDepth 16384

noncomputable section

/- The tables that the host gives to the kernel. -/
namespace Cert.KernelIdeal.Proof.Tables

open Cert.KernelIdeal Idealize.ShloMosaic Cert.Spec

theorem lit3_eq : ∀ (b : Fin 4) (g : Fin 20), lit3 ⟨b.val * 20 + g.val, by omega⟩ = if g.val / 5 = b.val then 0x3F800000#32 else 0#32 := by decide +kernel
theorem lit4_eq : ∀ (g : Fin 20) (b : Fin 4), lit4 ⟨g.val * 4 + b.val, by omega⟩ = if g.val / 5 = b.val then 0x3FB8AA3B#32 else 0#32 := by decide +kernel
theorem lit6_eq : ∀ (p : Fin 32) (b : Fin 4), lit6 ⟨p.val * 4 + b.val, by omega⟩ = if p.val / 8 = b.val then 0x3F800000#32 else 0#32 := by decide +kernel
theorem lit5_eq : ∀ (p : Fin 160) (g : Fin 20), lit5 ⟨p.val * 20 + g.val, by omega⟩ = if p.val / 8 = g.val then 0x3F800000#32 else 0#32 := by decide +kernel
theorem lit2_eq : ∀ (t : Fin 3) (l : Fin 384), lit2 ⟨t.val * 384 + l.val, by omega⟩ = if inside (l.val / 24) t then 0#32 else 0xDA0E1BCA#32 := by decide +kernel

end Cert.KernelIdeal.Proof.Tables

end
-- ==== Proof.TableE.lean ====
module

public import proofs.«01_k».proof.KernelIdeal
public import proofs.«01_k».proof.Proof.Spec

@[expose] public section

set_option maxRecDepth 16384

noncomputable section

/- The first large table: which neighbour each column has, by column. -/
namespace Cert.KernelIdeal.Proof.Tables

open Cert.KernelIdeal Idealize.ShloMosaic Cert.Spec

theorem lit0_eq : ∀ (t : Fin 3) (l : Fin 384) (j : Fin 16), lit0 ⟨(t.val * 384 + l.val) * 16 + j.val, by omega⟩ = if near (l.val / 24) t = j then 0x3F800000#32 else 0#32 := by decide +kernel

end Cert.KernelIdeal.Proof.Tables

end
-- ==== Proof.TableG.lean ====
module

public import proofs.«01_k».proof.KernelIdeal
public import proofs.«01_k».proof.Proof.Spec

@[expose] public section

set_option maxRecDepth 16384

noncomputable section

/- The second large table: the same by neighbour. -/
namespace Cert.KernelIdeal.Proof.Tables

open Cert.KernelIdeal Idealize.ShloMosaic Cert.Spec

theorem lit1_eq : ∀ (t : Fin 3) (j : Fin 16) (l : Fin 384), lit1 ⟨(t.val * 16 + j.val) * 384 + l.val, by omega⟩ = if near (l.val / 24) t = j then 0x3F800000#32 else 0#32 := by decide +kernel

end Cert.KernelIdeal.Proof.Tables

end
-- ==== Proof.Model.lean ====
module

public import proofs.«01_k».proof.Proof.IdealRun

@[expose] public section

set_option maxRecDepth 16384

noncomputable section

/- The kernel body's arithmetic, written once for every row block, row of superpixels and neighbour column. -/
namespace Cert.KernelIdeal.Proof.Model

open Cert.KernelIdeal Cert.KernelIdeal.Gen
open Idealize.ShloMosaic

variable {F : FTy → Type} [FloatOps F] [Named F]

abbrev zero : F .f32 := Scalar.ofBits .f32 0x00000000#32
abbrev mask : F .f32 := Named.named κ "mask" 0xDA0E1BCA#32

/-- The row mask of neighbour row `8 * b + off - 1`. -/
def rbias (b off : BitVec 32) : F .f32 :=
  let v : BitVec 32 := Scalar.subi (Scalar.addi (Scalar.muli b 8#32) off) 1#32
  Scalar.select (Scalar.andi (Scalar.cmpi .sge v 0#32) (Scalar.cmpi .slt v 16#32)) zero mask

/-- The distance's part that the pixel row doesn't change: the masks less the squared norm of the superpixel. -/
def base (rb : F .f32) (S : Vec F S16x20 .f32) (r2l : Vec F S20x4 .f32) (g : Vec F S1x16x384 .f32) (cb : Vec F S1x1x384 .f32) : FVec F S4x384 .f32 :=
  k0_pay92 rb (k0_pay89 S r2l g) (k0_pay91 cb) mask zero

theorem xs_slices : ∀ s : Fin 8, S4x5x192x384.Slices ![0, 0, 24 * s.val, 0] S4x5x24x384 := by decide

/-- The 24 pixel rows of sub-block `s`. -/
def xs (X : Vec F S4x5x192x384 .f32) (s : Fin 8) : FVec F S4x5x24x384 .f32 :=
  extractStridedSlice S4x5x24x384 ![0, 0, 24 * s.val, 0] X (xs_slices s)

/-- Scaled minus squared distance of each pixel to one neighbour, masked. -/
def nd (x : FVec F S4x5x24x384 .f32) (m2 : FVec F S4x5x1x384 .f32) (bs : FVec F S4x384 .f32) : FVec F S4x24x384 .f32 :=
  addf (subf (broadcastTo S4x24x384 (shapeCast S4x1x384 bs shapeCasts_S4x384_S4x1x384) broadcasts_S4x1x384_S4x24x384)
      (mulf (broadcast S4x24x384 (Named.named κ "log2e" 0x3FB8AA3B#32))
        (multiReduction .add [1] S4x24x384 (mulf x x) 0x00000000#32 reduces_S4x5x24x384_S4x24x384 (.inl rfl) rfl)))
    (multiReduction .add [1] S4x24x384 (mulf x (broadcastTo S4x5x24x384 m2 broadcasts_S4x5x1x384_S4x5x24x384)) 0x00000000#32
      reduces_S4x5x24x384_S4x24x384 (.inl rfl) rfl)

/-- The nine distances of sub-block `s`. -/
def nds (b : BitVec 32) (X : Vec F S4x5x192x384 .f32) (G : Fin 3 → Vec F S1x16x384 .f32) (cb : Fin 3 → Vec F S1x1x384 .f32)
    (r2l : Vec F S20x4 .f32) (S : Fin 10 → Vec F S16x20 .f32) (s : Fin 8) (ty tx : Fin 3) : FVec F S4x24x384 .f32 :=
  nd (xs X s) (k0_pay90 (S ⟨s.val + ty.val, by omega⟩) r2l (G tx))
    (base (rbias b (BitVec.ofNat 32 (s.val + ty.val))) (S ⟨s.val + ty.val, by omega⟩) r2l (G tx) (cb tx))

/-- The largest of nine. -/
def mx (n : Fin 3 → Fin 3 → FVec F S4x24x384 .f32) : FVec F S4x24x384 .f32 :=
  maximumf (maximumf (maximumf (maximumf (maximumf (maximumf (maximumf (maximumf (n 0 0) (n 0 1)) (n 0 2)) (n 1 0)) (n 1 1)) (n 1 2)) (n 2 0)) (n 2 1)) (n 2 2)

/-- The exponentials. -/
def ex (n : Fin 3 → Fin 3 → FVec F S4x24x384 .f32) (ty tx : Fin 3) : FVec F S4x24x384 .f32 := exp2 (subf (n ty tx) (mx n))

/-- Their sum. -/
def sm (n : Fin 3 → Fin 3 → FVec F S4x24x384 .f32) : FVec F S4x24x384 .f32 :=
  addf (addf (addf (addf (addf (addf (addf (addf (ex n 0 0) (ex n 0 1)) (ex n 0 2)) (ex n 1 0)) (ex n 1 1)) (ex n 1 2)) (ex n 2 0)) (ex n 2 1)) (ex n 2 2)

/-- The sum's reciprocal. -/
def rs (n : Fin 3 → Fin 3 → FVec F S4x24x384 .f32) : FVec F S4x24x384 .f32 :=
  divf (broadcast S4x24x384 (Scalar.ofBits .f32 0x3F800000#32)) (sm n)

/-- One neighbour's weights. -/
def qv (n : Fin 3 → Fin 3 → FVec F S4x24x384 .f32) (ty tx : Fin 3) : FVec F S4x24x384 .f32 := mulf (ex n ty tx) (rs n)

/-- One neighbour's weights, as they are stored. -/
def qp (n : Fin 3 → Fin 3 → FVec F S4x24x384 .f32) (ty tx : Fin 3) : FVec F S4x1x24x384 .f32 :=
  shapeCast S4x1x24x384 (qv n ty tx) shapeCasts_S4x24x384_S4x1x24x384

/-- The weighted pixels, summed over rows eight apart. -/
def pN (x : FVec F S4x5x24x384 .f32) (n : Fin 3 → Fin 3 → FVec F S4x24x384 .f32) (ty tx : Fin 3) : FVec F S160x384 .f32 :=
  shapeCast S160x384 (multiReduction .add [1] S20x8x384
    (shapeCast S20x3x8x384
      (mulf (broadcastTo S4x5x24x384 (shapeCast S4x1x24x384 (ex n ty tx) shapeCasts_S4x24x384_S4x1x24x384) broadcasts_S4x1x24x384_S4x5x24x384)
        (mulf x (broadcastTo S4x5x24x384 (shapeCast S4x1x24x384 (rs n) shapeCasts_S4x24x384_S4x1x24x384) broadcasts_S4x1x24x384_S4x5x24x384)))
      shapeCasts_S4x5x24x384_S20x3x8x384) 0x00000000#32 reduces_S20x3x8x384_S20x8x384 (.inl rfl) rfl) shapeCasts_S20x8x384_S160x384

/-- The weights, summed over rows eight apart. -/
def pD (n : Fin 3 → Fin 3 → FVec F S4x24x384 .f32) (ty tx : Fin 3) : FVec F S32x384 .f32 :=
  shapeCast S32x384 (multiReduction .add [1] S4x8x384
    (shapeCast S4x3x8x384 (qv n ty tx) shapeCasts_S4x24x384_S4x3x8x384) 0x00000000#32 reduces_S4x3x8x384_S4x8x384 (.inl rfl) rfl) shapeCasts_S4x8x384_S32x384

/-- A sum over pixels by superpixel column. -/
def scN (e : Vec F S1x384x16 .f32) (p : FVec F S160x384 .f32) : FVec F S16x160 .f32 :=
  matmul dot_S384x16_S160x384_S16x160_0_1_1_0_n_n none (shapeCast S384x16 e shapeCasts_S1x384x16_S384x16) p (constant S16x160 .f32 0x00000000#32)
/-- A sum over weights by superpixel column. -/
def scD (e : Vec F S1x384x16 .f32) (p : FVec F S32x384 .f32) : FVec F S16x32 .f32 :=
  matmul dot_S384x16_S32x384_S16x32_0_1_1_0_n_n none (shapeCast S384x16 e shapeCasts_S1x384x16_S384x16) p (constant S16x32 .f32 0x00000000#32)

/-- What one sub-block adds to the numerators of one neighbour row. -/
def cN (E : Fin 3 → Vec F S1x384x16 .f32) (Gn : Vec F S160x20 .f32) (x : FVec F S4x5x24x384 .f32) (n : Fin 3 → Fin 3 → FVec F S4x24x384 .f32)
    (ty : Fin 3) : FVec F S16x20 .f32 :=
  matmul dot_S16x160_S160x20_S16x20_1_0_0_1_n_n none
    (addf (addf (addf (broadcast S16x160 zero) (scN (E 0) (pN x n ty 0))) (scN (E 1) (pN x n ty 1))) (scN (E 2) (pN x n ty 2)))
    Gn (constant S16x20 .f32 0x00000000#32)
/-- What one sub-block adds to the denominators of one neighbour row. -/
def cD (E : Fin 3 → Vec F S1x384x16 .f32) (Gd : Vec F S32x4 .f32) (n : Fin 3 → Fin 3 → FVec F S4x24x384 .f32)
    (ty : Fin 3) : FVec F S16x4 .f32 :=
  matmul dot_S16x32_S32x4_S16x4_1_0_0_1_n_n none
    (addf (addf (addf (broadcast S16x32 zero) (scD (E 0) (pD n ty 0))) (scD (E 1) (pD n ty 1))) (scD (E 2) (pD n ty 2)))
    Gd (constant S16x4 .f32 0x00000000#32)

/-- What a row block adds to neighbour row `o` of its ten: `c s ty` is sub-block `s`'s part at neighbour `ty`. -/
def win {t : Shape} (c : Fin 8 → Fin 3 → FVec F t .f32) : Fin 10 → FVec F t .f32 :=
  ![c 0 0,
    addf (c 0 1) (c 1 0),
    addf (addf (c 0 2) (c 1 1)) (c 2 0),
    addf (addf (c 1 2) (c 2 1)) (c 3 0),
    addf (addf (c 2 2) (c 3 1)) (c 4 0),
    addf (addf (c 3 2) (c 4 1)) (c 5 0),
    addf (addf (c 4 2) (c 5 1)) (c 6 0),
    addf (addf (c 5 2) (c 6 1)) (c 7 0),
    addf (c 6 2) (c 7 1),
    c 7 2]

/-- The eight rows a row block owns, stacked. -/
def inN (w : Fin 10 → FVec F S16x20 .f32) : FVec F S128x20 .f32 :=
  concatenate S128x20 0 [⟨S16x20, w 1⟩, ⟨S16x20, w 2⟩, ⟨S16x20, w 3⟩, ⟨S16x20, w 4⟩, ⟨S16x20, w 5⟩, ⟨S16x20, w 6⟩, ⟨S16x20, w 7⟩, ⟨S16x20, w 8⟩]
    concatenates_S16x20_S16x20_S16x20_S16x20_S16x20_S16x20_S16x20_S16x20_S128x20_d0
def inD (w : Fin 10 → FVec F S16x4 .f32) : FVec F S128x4 .f32 :=
  concatenate S128x4 0 [⟨S16x4, w 1⟩, ⟨S16x4, w 2⟩, ⟨S16x4, w 3⟩, ⟨S16x4, w 4⟩, ⟨S16x4, w 5⟩, ⟨S16x4, w 6⟩, ⟨S16x4, w 7⟩, ⟨S16x4, w 8⟩]
    concatenates_S16x4_S16x4_S16x4_S16x4_S16x4_S16x4_S16x4_S16x4_S128x4_d0

/-- The first means' sums: a sub-block's pixels by superpixel column. -/
def iN (E1 : Vec F S1x384x16 .f32) (Gn : Vec F S160x20 .f32) (x : FVec F S4x5x24x384 .f32) : FVec F S16x20 .f32 :=
  matmul dot_S16x160_S160x20_S16x20_1_0_0_1_n_n none
    (scN E1 (shapeCast S160x384 (multiReduction .add [1] S20x8x384
      (shapeCast S20x3x8x384 (shapeCast S20x24x384 x shapeCasts_S4x5x24x384_S20x24x384) shapeCasts_S20x24x384_S20x3x8x384)
      0x00000000#32 reduces_S20x3x8x384_S20x8x384 (.inl rfl) rfl) shapeCasts_S20x8x384_S160x384))
    Gn (constant S16x20 .f32 0x00000000#32)
/-- The first means' counts. -/
def iD (E1 : Vec F S1x384x16 .f32) : FVec F S16x4 .f32 :=
  matmul dot_S384x16_S4x384_S16x4_0_1_1_0_n_n none (shapeCast S384x16 E1 shapeCasts_S1x384x16_S384x16)
    (broadcast S4x384 (Scalar.ofBits .f32 0x41C00000#32)) (constant S16x4 .f32 0x00000000#32)

end Cert.KernelIdeal.Proof.Model

end
-- ==== Proof.Elem.lean ====
module

public import proofs.«01_k».proof.Proof.Model
public import proofs.«01_k».proof.Proof.Softmax
public import proofs.«01_k».proof.Proof.Spec
public import Idealize.ShloMosaic.Lib.Pointwise
public import Idealize.ShloMosaic.PureOps.IdealRules

@[expose] public section

set_option maxRecDepth 16384

noncomputable section

/- The kernel body's arithmetic, element by element. -/
namespace Cert.KernelIdeal.Proof.Elem

open Cert.KernelIdeal Cert.KernelIdeal.Gen Cert.KernelIdeal.Proof.Model
open Idealize.ShloMosaic Idealize.ShloMosaic.Tactic

abbrev log2e : Ideal .f32 := Named.named κ "log2e" 0x3FB8AA3B#32
abbrev twoLog2e : Ideal .f32 := Named.named κ "two_log2e" 0x4038AA3B#32

theorem log2e_val : (Named.named (F := Ideal) Cert.KernelIdeal.κ "log2e" (φ := .f32) 0x3FB8AA3B#32) = (((Real.log 2)⁻¹ : ℝ) : EReal) :=
  IdealRules.named_const.ideal_named_scalar _ _ _ _ rfl
theorem twoLog2e_val : (Named.named (F := Ideal) Cert.KernelIdeal.κ "two_log2e" (φ := .f32) 0x4038AA3B#32) = ((2 * (Real.log 2)⁻¹ : ℝ) : EReal) :=
  IdealRules.named_const.ideal_named_scalar _ _ _ _ rfl
theorem mask_val : (Named.named (F := Ideal) Cert.KernelIdeal.κ "mask" (φ := .f32) 0xDA0E1BCA#32) = (⊥ : EReal) :=
  IdealRules.named_const.ideal_named_scalar _ _ _ _ rfl

theorem scN_at (e : Vec Ideal S1x384x16 .f32) (p : FVec Ideal S160x384 .f32) (j : Fin 16) (q : Fin 160) :
    scN e p (ix2 j q) = ∑ x : Fin 384, e (ix3 0 x j) * p (ix2 q x) := by
  pointwise [scN]

theorem scD_at (e : Vec Ideal S1x384x16 .f32) (p : FVec Ideal S32x384 .f32) (j : Fin 16) (q : Fin 32) :
    scD e p (ix2 j q) = ∑ x : Fin 384, e (ix3 0 x j) * p (ix2 q x) := by
  pointwise [scD]

theorem pN_at (x : FVec Ideal S4x5x24x384 .f32) (n : Fin 3 → Fin 3 → FVec Ideal S4x24x384 .f32) (ty tx : Fin 3) (p : Fin 160) (l : Fin 384) :
    pN x n ty tx (ix2 p l) = ∑ e : Fin 3, ex n ty tx (ix3 ⟨p.val / 8 / 5, by omega⟩ ⟨e.val * 8 + p.val % 8, by omega⟩ l) *
      (x (ix4 ⟨p.val / 8 / 5, by omega⟩ ⟨p.val / 8 % 5, by omega⟩ ⟨e.val * 8 + p.val % 8, by omega⟩ l) * rs n (ix3 ⟨p.val / 8 / 5, by omega⟩ ⟨e.val * 8 + p.val % 8, by omega⟩ l)) := by
  pointwise [pN]

theorem pD_at (n : Fin 3 → Fin 3 → FVec Ideal S4x24x384 .f32) (ty tx : Fin 3) (p : Fin 32) (l : Fin 384) :
    pD n ty tx (ix2 p l) = ∑ e : Fin 3, qv n ty tx (ix3 ⟨p.val / 8, by omega⟩ ⟨e.val * 8 + p.val % 8, by omega⟩ l) := by
  pointwise [pD]

theorem qv_at (n : Fin 3 → Fin 3 → FVec Ideal S4x24x384 .f32) (ty tx : Fin 3) (b : Fin 4) (y : Fin 24) (l : Fin 384) :
    qv n ty tx (ix3 b y l) = ex n ty tx (ix3 b y l) * rs n (ix3 b y l) := by pointwise [qv]

theorem ex_at (n : Fin 3 → Fin 3 → FVec Ideal S4x24x384 .f32) (ty tx : Fin 3) (b : Fin 4) (y : Fin 24) (l : Fin 384) :
    ex n ty tx (ix3 b y l) = Ideal.exp2 (n ty tx (ix3 b y l) - Softmax.mx9 fun ty tx => n ty tx (ix3 b y l)) := by
  pointwise [ex, mx, Softmax.mx9]
  rfl

theorem rs_at (n : Fin 3 → Fin 3 → FVec Ideal S4x24x384 .f32) (b : Fin 4) (y : Fin 24) (l : Fin 384) :
    rs n (ix3 b y l) = Ideal.div 1 (Softmax.sm9 fun ty tx => ex n ty tx (ix3 b y l)) := by
  pointwise [rs, sm, Softmax.sm9]

theorem qp_at (n : Fin 3 → Fin 3 → FVec Ideal S4x24x384 .f32) (ty tx : Fin 3) (b : Fin 4) (y : Fin 24) (l : Fin 384) :
    qp n ty tx (ix4 b 0 y l) = qv n ty tx (ix3 b y l) := by pointwise [qp]

theorem nd_at (x : FVec Ideal S4x5x24x384 .f32) (m2 : FVec Ideal S4x5x1x384 .f32) (bs : FVec Ideal S4x384 .f32) (b : Fin 4) (y : Fin 24) (l : Fin 384) :
    nd x m2 bs (ix3 b y l) = bs (ix2 b l) - (log2e : Ideal .f32) * (∑ c : Fin 5, x (ix4 b c y l) * x (ix4 b c y l))
      + ∑ c : Fin 5, x (ix4 b c y l) * m2 (ix4 b c 0 l) := by
  pointwise [nd]

theorem base_at (rb : Ideal .f32) (S : Vec Ideal S16x20 .f32) (r2l : Vec Ideal S20x4 .f32) (g : Vec Ideal S1x16x384 .f32) (cb : Vec Ideal S1x1x384 .f32)
    (b : Fin 4) (l : Fin 384) :
    base rb S r2l g cb (ix2 b l) = ((if cb (ix3 0 0 l) < 0 then mask else 0) + rb)
      - ∑ k : Fin 16, (∑ h : Fin 20, S (ix2 k h) * S (ix2 k h) * (if 0 < r2l (ix2 h b) then (log2e : Ideal .f32) else 0)) * g (ix3 0 k l) := by
  pointwise [base, k0_pay92, k0_pay89, k0_pay91, k0_pay88]

theorem m2_at (S : Vec Ideal S16x20 .f32) (r2l : Vec Ideal S20x4 .f32) (g : Vec Ideal S1x16x384 .f32) (b : Fin 4) (c : Fin 5) (l : Fin 384) :
    k0_pay90 S r2l g (ix4 b c 0 l) = ∑ k : Fin 16, ((twoLog2e : Ideal .f32) * S (ix2 k ⟨b.val * 5 + c.val, by omega⟩)) * g (ix3 0 k l) := by
  pointwise [k0_pay90, k0_pay89, k0_pay88]
  exact Finset.sum_congr rfl fun k _ => congrArg (· * g (ix3 0 k l)) (dif_pos (by omega))

theorem xs_at (X : Vec Ideal S4x5x192x384 .f32) (s : Fin 8) (b : Fin 4) (c : Fin 5) (y : Fin 24) (l : Fin 384) :
    xs X s (ix4 b c y l) = X (ix4 b c ⟨24 * s.val + y.val, by omega⟩ l) := by
  pointwise [xs]

theorem cN_at (E : Fin 3 → Vec Ideal S1x384x16 .f32) (Gn : Vec Ideal S160x20 .f32) (x : FVec Ideal S4x5x24x384 .f32) (n : Fin 3 → Fin 3 → FVec Ideal S4x24x384 .f32)
    (ty : Fin 3) (j : Fin 16) (g : Fin 20) :
    cN E Gn x n ty (ix2 j g) = ∑ p : Fin 160, (scN (E 0) (pN x n ty 0) (ix2 j p) + scN (E 1) (pN x n ty 1) (ix2 j p) + scN (E 2) (pN x n ty 2) (ix2 j p)) * Gn (ix2 p g) := by
  pointwise [cN]

theorem cD_at (E : Fin 3 → Vec Ideal S1x384x16 .f32) (Gd : Vec Ideal S32x4 .f32) (n : Fin 3 → Fin 3 → FVec Ideal S4x24x384 .f32)
    (ty : Fin 3) (j : Fin 16) (g : Fin 4) :
    cD E Gd n ty (ix2 j g) = ∑ p : Fin 32, (scD (E 0) (pD n ty 0) (ix2 j p) + scD (E 1) (pD n ty 1) (ix2 j p) + scD (E 2) (pD n ty 2) (ix2 j p)) * Gd (ix2 p g) := by
  pointwise [cD]

theorem iN_at (E1 : Vec Ideal S1x384x16 .f32) (Gn : Vec Ideal S160x20 .f32) (x : FVec Ideal S4x5x24x384 .f32) (j : Fin 16) (g : Fin 20) :
    iN E1 Gn x (ix2 j g) = ∑ p : Fin 160, (∑ l : Fin 384, E1 (ix3 0 l j) * ∑ e : Fin 3,
      x (ix4 ⟨p.val / 8 / 5, by omega⟩ ⟨p.val / 8 % 5, by omega⟩ ⟨e.val * 8 + p.val % 8, by omega⟩ l)) * Gn (ix2 p g) := by
  pointwise [iN, scN]

theorem iD_at (E1 : Vec Ideal S1x384x16 .f32) (j : Fin 16) (b : Fin 4) :
    iD E1 (ix2 j b) = ∑ x : Fin 384, E1 (ix3 0 x j) * Ideal.ofBits .f32 0x41C00000#32 := by
  pointwise [iD]

theorem bit_zero (n : ℕ) (h : n < 6) : IntOp.cmpi .eq (BitVec.ofNat 32 n) 0#32 = 1#1 ↔ n = 0 := by
  interval_cases n <;> decide

theorem pay5_at (i : grid0.Coords) (d : Vec Ideal S256x4 .f32) (R : Vec Ideal S4x20 .f32) (n : Vec Ideal S256x20 .f32) (a : Fin 256) (g : Fin 20) :
    k0_pay5 i d R n (ix2 a g) = Ideal.div (n (ix2 a g))
      (if (i 0).val = 0 then max (∑ b : Fin 4, d (ix2 a b) * R (ix2 b g)) 1 else (∑ b : Fin 4, d (ix2 a b) * R (ix2 b g)) + Ideal.ofBits .f32 0x24E69595#32) := by
  pointwise [k0_pay5]
  exact congrArg _ (if_congr (bit_zero (i 0).val (i 0).isLt) rfl rfl)

theorem ofBits_24 : Ideal.ofBits .f32 0x41C00000#32 = ((24 : ℝ) : EReal) := by
  simp [Ideal.ofBits, Ideal.ieee, -EReal.coe_mul]; norm_num

end Cert.KernelIdeal.Proof.Elem

end
-- ==== Proof.Bridge.lean ====
module

public import proofs.«01_k».proof.Proof.Model

@[expose] public section

set_option maxRecDepth 16384

noncomputable section

/- What the body's run leaves in its buffers, in the terms of `Model`. -/
namespace Cert.KernelIdeal.Proof.Bridge

open Cert.KernelIdeal Cert.KernelIdeal.Gen Cert.KernelIdeal.Proof
open Idealize.ShloMosaic Idealize.ShloMosaic.Tactic

variable {F : FTy → Type} [FloatOps F] [Named F]

theorem inbE : ∀ t : Fin 3, ∀ a, (![t.val, 0, 0] : Fin 3 → Nat) a + S1x384x16.size a ≤ S3x384x16.size a := by decide
theorem inbG : ∀ t : Fin 3, ∀ a, (![t.val, 0, 0] : Fin 3 → Nat) a + S1x16x384.size a ≤ S3x16x384.size a := by decide
theorem inbC : ∀ t : Fin 3, ∀ a, (![t.val, 0, 0] : Fin 3 → Nat) a + S1x1x384.size a ≤ S3x1x384.size a := by decide
theorem inbQ : ∀ (s : Fin 8) (t : Fin 9), ∀ a, (![0, t.val, 24 * s.val, 0] : Fin 4 → Nat) a + S4x1x24x384.size a ≤ S4x9x192x384.size a := by decide

/-- The first point of the grid. -/
def cond1 (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

/-- What the body's loads read: the pixels, the tables, and the superpixels before the point. -/
structure Ins (F : FTy → Type) where
  X : Vec F S4x5x192x384 .f32
  E : Fin 3 → Vec F S1x384x16 .f32
  G : Fin 3 → Vec F S1x16x384 .f32
  C : Fin 3 → Vec F S1x1x384 .f32
  R : Vec F S4x20 .f32
  R2 : Vec F S20x4 .f32
  Gn : Vec F S160x20 .f32
  Gd : Vec F S32x4 .f32
  S : Fin 10 → Vec F S16x20 .f32

/-- The nine distances of sub-block `s`. -/
def Ins.nds (I : Ins F) (i : grid0.Coords) (s : Fin 8) : Fin 3 → Fin 3 → FVec F S4x24x384 .f32 :=
  Model.nds (BitVec.ofNat 32 (i 1).val) I.X I.G I.C I.R2 I.S s
/-- What the point adds to the numerators, by the ten rows it touches. -/
def Ins.wN (I : Ins F) (i : grid0.Coords) : Fin 10 → FVec F S16x20 .f32 :=
  Model.win fun s ty => Model.cN I.E I.Gn (Model.xs I.X s) (I.nds i s) ty
/-- What the point adds to the denominators. -/
def Ins.wD (I : Ins F) (i : grid0.Coords) : Fin 10 → FVec F S16x4 .f32 :=
  Model.win fun s ty => Model.cD I.E I.Gd (I.nds i s) ty

section
variable (i : grid0.Coords) (I : Ins F)
variable {M : Memref sig .tc .vmem S256x20 .f32} (f : M.view.ty.Contents (Elt F))
variable {N : Memref sig .tc .vmem S256x4 .f32} (g : N.view.ty.Contents (Elt F))

/-- The numerators cleared at the first point. -/
def n1 : M.view.ty.Contents (Elt F) :=
  if _hc : cond1 i = 1#1 then M.view.writes (Elt F) f [⟨Rect.unit (s := S256x20) ![0, 0] S256x20.size inb_S256x20_S256x20_0_0, k0_pay1⟩] else f
def d1 : N.view.ty.Contents (Elt F) :=
  if _hc : cond1 i = 1#1 then N.view.writes (Elt F) g [⟨Rect.unit (s := S256x4) ![0, 0] S256x4.size inb_S256x4_S256x4_0_0, k0_pay2⟩] else g

/-- A sub-block's first sums, written over its row. -/
def pc1 (hc : k0_cond2 i = 1#1) (f : M.view.ty.Contents (Elt F)) (s : Fin 8) : View.Piece (Elt F) S256x20 .f32 :=
  ⟨Rect.unit (s := S256x20) (k0_off1 i (BitVec.ofNat 32 s.val)) S16x20.size (k0_off1_inb i hc s),
    shapeCast S16x20 (addf (M.view.readAt (Elt F) (Rect.unit (s := S256x20) (k0_off1 i (BitVec.ofNat 32 s.val)) S16x20.size (k0_off1_inb i hc s)).toLoadRect f)
      (Model.iN (I.E 1) I.Gn (Model.xs I.X s))) shapeCasts_S16x20_S16x20⟩
def pc2 (hc : k0_cond2 i = 1#1) (g : N.view.ty.Contents (Elt F)) (s : Fin 8) : View.Piece (Elt F) S256x4 .f32 :=
  ⟨Rect.unit (s := S256x4) (k0_off2 i (BitVec.ofNat 32 s.val)) S16x4.size (k0_off2_inb i hc s),
    shapeCast S16x4 (addf (N.view.readAt (Elt F) (Rect.unit (s := S256x4) (k0_off2 i (BitVec.ofNat 32 s.val)) S16x4.size (k0_off2_inb i hc s)).toLoadRect g)
      (Model.iD (I.E 1))) shapeCasts_S16x4_S16x4⟩

/-- The first iteration's sums. -/
def n2 : M.view.ty.Contents (Elt F) :=
  if hc : k0_cond2 i = 1#1 then M.view.writes (Elt F) (n1 i f) [pc1 i I hc (n1 i f) 7, pc1 i I hc (n1 i f) 6, pc1 i I hc (n1 i f) 5, pc1 i I hc (n1 i f) 4, pc1 i I hc (n1 i f) 3, pc1 i I hc (n1 i f) 2, pc1 i I hc (n1 i f) 1, pc1 i I hc (n1 i f) 0] else n1 i f
def d2 : N.view.ty.Contents (Elt F) :=
  if hc : k0_cond2 i = 1#1 then N.view.writes (Elt F) (d1 i g) [pc2 i I hc (d1 i g) 7, pc2 i I hc (d1 i g) 6, pc2 i I hc (d1 i g) 5, pc2 i I hc (d1 i g) 4, pc2 i I hc (d1 i g) 3, pc2 i I hc (d1 i g) 2, pc2 i I hc (d1 i g) 1, pc2 i I hc (d1 i g) 0] else d1 i g

/-- A row of superpixels increased by `w`. -/
def up (M : Memref sig .tc .vmem S256x20 .f32) (off : Fin 2 → ℕ) (h : ∀ a, off a + S16x20.size a ≤ S256x20.size a) (f : M.view.ty.Contents (Elt F))
    (w : FVec F S16x20 .f32) : View.Piece (Elt F) S256x20 .f32 :=
  ⟨Rect.unit (s := S256x20) off S16x20.size h, shapeCast S16x20 (addf (M.view.readAt (Elt F) (Rect.unit (s := S256x20) off S16x20.size h).toLoadRect f) w) shapeCasts_S16x20_S16x20⟩
def upD (N : Memref sig .tc .vmem S256x4 .f32) (off : Fin 2 → ℕ) (h : ∀ a, off a + S16x4.size a ≤ S256x4.size a) (g : N.view.ty.Contents (Elt F))
    (w : FVec F S16x4 .f32) : View.Piece (Elt F) S256x4 .f32 :=
  ⟨Rect.unit (s := S256x4) off S16x4.size h, shapeCast S16x4 (addf (N.view.readAt (Elt F) (Rect.unit (s := S256x4) off S16x4.size h).toLoadRect g) w) shapeCasts_S16x4_S16x4⟩

/-- The block's own eight rows increased. -/
def L1 (hc : k0_cond3 i = 1#1) (f : M.view.ty.Contents (Elt F)) : List (View.Piece (Elt F) S256x20 .f32) :=
  [⟨Rect.unit (s := S256x20) (k0_off4 i) S128x20.size (k0_off4_inb i hc), shapeCast S128x20 (addf (M.view.readAt (Elt F)
    (Rect.unit (s := S256x20) (k0_off4 i) S128x20.size (k0_off4_inb i hc)).toLoadRect f) (Model.inN (I.wN i))) shapeCasts_S128x20_S128x20⟩]
def K1 (hc : k0_cond3 i = 1#1) (g : N.view.ty.Contents (Elt F)) : List (View.Piece (Elt F) S256x4 .f32) :=
  [⟨Rect.unit (s := S256x4) (k0_off5 i) S128x4.size (k0_off5_inb i hc), shapeCast S128x4 (addf (N.view.readAt (Elt F)
    (Rect.unit (s := S256x4) (k0_off5 i) S128x4.size (k0_off5_inb i hc)).toLoadRect g) (Model.inD (I.wD i))) shapeCasts_S128x4_S128x4⟩]
/-- And the row above. -/
def L2 (hc : k0_cond3 i = 1#1) (f : M.view.ty.Contents (Elt F)) : List (View.Piece (Elt F) S256x20 .f32) :=
  up M (k0_off6 i) (k0_off6_inb i hc) (M.view.writes (Elt F) f (L1 i I hc f)) (I.wN i 0) :: L1 i I hc f
def K2 (hc : k0_cond3 i = 1#1) (g : N.view.ty.Contents (Elt F)) : List (View.Piece (Elt F) S256x4 .f32) :=
  upD N (k0_off7 i) (k0_off7_inb i hc) (N.view.writes (Elt F) g (K1 i I hc g)) (I.wD i 0) :: K1 i I hc g
/-- And the row below. -/
def L3 (hc : k0_cond3 i = 1#1) (f : M.view.ty.Contents (Elt F)) : List (View.Piece (Elt F) S256x20 .f32) :=
  up M (k0_off8 i) (k0_off8_inb i hc) (M.view.writes (Elt F) f (L2 i I hc f)) (I.wN i 9) :: L2 i I hc f
def K3 (hc : k0_cond3 i = 1#1) (g : N.view.ty.Contents (Elt F)) : List (View.Piece (Elt F) S256x4 .f32) :=
  upD N (k0_off9 i) (k0_off9_inb i hc) (N.view.writes (Elt F) g (K2 i I hc g)) (I.wD i 9) :: K2 i I hc g

/-- The sums after the point, before they are used. -/
def n3 (J : k0_cond3 i = 1#1 → Ins F) : M.view.ty.Contents (Elt F) :=
  if hc : k0_cond3 i = 1#1 then M.view.writes (Elt F) (n2 i I f) (L3 i (J hc) hc (n2 i I f)) else n2 i I f
def d3 (J : k0_cond3 i = 1#1 → Ins F) : N.view.ty.Contents (Elt F) :=
  if hc : k0_cond3 i = 1#1 then N.view.writes (Elt F) (d2 i I g) (K3 i (J hc) hc (d2 i I g)) else d2 i I g

/-- The sums left for the next point: cleared after the last row block. -/
def n4 (J : k0_cond3 i = 1#1 → Ins F) : M.view.ty.Contents (Elt F) :=
  if _hc : k0_cond12 i = 1#1 then M.view.writes (Elt F) (n3 i I f J) [⟨Rect.unit (s := S256x20) ![0, 0] S256x20.size inb_S256x20_S256x20_0_0, k0_pay7⟩] else n3 i I f J
def d4 (J : k0_cond3 i = 1#1 → Ins F) : N.view.ty.Contents (Elt F) :=
  if _hc : k0_cond12 i = 1#1 then N.view.writes (Elt F) (d3 i I g J) [⟨Rect.unit (s := S256x4) ![0, 0] S256x4.size inb_S256x4_S256x4_0_0, k0_pay8⟩] else d3 i I g J

/-- The means the last row block makes. -/
def spf (J : k0_cond3 i = 1#1 → Ins F) : FVec F S256x20 .f32 :=
  k0_pay5 i (N.view.readAt (Elt F) (Rect.unit (s := S256x4) ![0, 0] S256x4.size inb_S256x4_S256x4_0_0).toLoadRect (d3 i I g J)) I.R
    (M.view.readAt (Elt F) (Rect.unit (s := S256x20) ![0, 0] S256x20.size inb_S256x20_S256x20_0_0).toLoadRect (n3 i I f J))

/-- The nine weights of one sub-block, the last first, over what is already written. -/
def qs (s : Fin 8) (L : List (View.Piece (Elt F) S4x9x192x384 .f32)) : List (View.Piece (Elt F) S4x9x192x384 .f32) :=
  ⟨Rect.unit ![0, (8 : Fin 9).val, 24 * s.val, 0] S4x1x24x384.size (inbQ s 8), Model.qp (I.nds i s) 2 2⟩ ::
  ⟨Rect.unit ![0, (7 : Fin 9).val, 24 * s.val, 0] S4x1x24x384.size (inbQ s 7), Model.qp (I.nds i s) 2 1⟩ ::
  ⟨Rect.unit ![0, (6 : Fin 9).val, 24 * s.val, 0] S4x1x24x384.size (inbQ s 6), Model.qp (I.nds i s) 2 0⟩ ::
  ⟨Rect.unit ![0, (5 : Fin 9).val, 24 * s.val, 0] S4x1x24x384.size (inbQ s 5), Model.qp (I.nds i s) 1 2⟩ ::
  ⟨Rect.unit ![0, (4 : Fin 9).val, 24 * s.val, 0] S4x1x24x384.size (inbQ s 4), Model.qp (I.nds i s) 1 1⟩ ::
  ⟨Rect.unit ![0, (3 : Fin 9).val, 24 * s.val, 0] S4x1x24x384.size (inbQ s 3), Model.qp (I.nds i s) 1 0⟩ ::
  ⟨Rect.unit ![0, (2 : Fin 9).val, 24 * s.val, 0] S4x1x24x384.size (inbQ s 2), Model.qp (I.nds i s) 0 2⟩ ::
  ⟨Rect.unit ![0, (1 : Fin 9).val, 24 * s.val, 0] S4x1x24x384.size (inbQ s 1), Model.qp (I.nds i s) 0 1⟩ ::
  ⟨Rect.unit ![0, (0 : Fin 9).val, 24 * s.val, 0] S4x1x24x384.size (inbQ s 0), Model.qp (I.nds i s) 0 0⟩ :: L

/-- All the weights of a row block. -/
def qL : List (View.Piece (Elt F) S4x9x192x384 .f32) :=
  qs i I 7 (qs i I 6 (qs i I 5 (qs i I 4 (qs i I 3 (qs i I 2 (qs i I 1 (qs i I 0 [])))))))
end

section
variable (c : Dev nD) (i : grid0.Coords)
    (M2 : Memref sig .tc .vmem S4x5x192x384 .f32) (h2 : M2.IsWhole)
    (M3 : Memref sig .tc .vmem S3x384x16 .f32) (h3 : M3.IsWhole)
    (M4 : Memref sig .tc .vmem S3x16x384 .f32) (h4 : M4.IsWhole)
    (M5 : Memref sig .tc .vmem S3x1x384 .f32) (h5 : M5.IsWhole)
    (M6 : Memref sig .tc .vmem S4x20 .f32) (h6 : M6.IsWhole)
    (M7 : Memref sig .tc .vmem S20x4 .f32) (h7 : M7.IsWhole)
    (M8 : Memref sig .tc .vmem S160x20 .f32) (h8 : M8.IsWhole)
    (M9 : Memref sig .tc .vmem S32x4 .f32) (h9 : M9.IsWhole)
    (M10 : Memref sig .tc .vmem S4x9x192x384 .f32) (h10 : M10.IsWhole)
    (M11 : Memref sig .tc .vmem S256x20 .f32) (h11 : M11.IsWhole)
    (M12 : Memref sig .tc .vmem S256x20 .f32) (h12 : M12.IsWhole)
    (M13 : Memref sig .tc .vmem S256x20 .f32) (h13 : M13.IsWhole)
    (M14 : Memref sig .tc .vmem S256x4 .f32) (h14 : M14.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14)

/-- The rows of superpixels read at a point that reads none. -/
def noRows : Fin 10 → Vec F S16x20 .f32 := fun _ _ => Model.zero

/-- The rows of superpixels read. -/
def rows (hc : k0_cond3 i = 1#1) (o : Fin 10) : Vec F S16x20 .f32 :=
  M12.view.readAt (Elt F) (Rect.unit (s := S256x20) (k0_off3 i (BitVec.ofNat 32 o.val)) S16x20.size (k0_off3_inb i hc o)).toLoadRect f12

/-- What the body's loads read. -/
def ins (S : Fin 10 → Vec F S16x20 .f32) : Ins F where
  X := M2.view.readAt (Elt F) (Rect.unit (s := S4x5x192x384) ![0, 0, 0, 0] S4x5x192x384.size inb_S4x5x192x384_S4x5x192x384_0_0_0_0).toLoadRect f2
  E := fun t => M3.view.readAt (Elt F) (Rect.unit (s := S3x384x16) ![t.val, 0, 0] S1x384x16.size (inbE t)).toLoadRect f3
  G := fun t => M4.view.readAt (Elt F) (Rect.unit (s := S3x16x384) ![t.val, 0, 0] S1x16x384.size (inbG t)).toLoadRect f4
  C := fun t => M5.view.readAt (Elt F) (Rect.unit (s := S3x1x384) ![t.val, 0, 0] S1x1x384.size (inbC t)).toLoadRect f5
  R := M6.view.readAt (Elt F) (Rect.unit (s := S4x20) ![0, 0] S4x20.size inb_S4x20_S4x20_0_0).toLoadRect f6
  R2 := M7.view.readAt (Elt F) (Rect.unit (s := S20x4) ![0, 0] S20x4.size inb_S20x4_S20x4_0_0).toLoadRect f7
  Gn := M8.view.readAt (Elt F) (Rect.unit (s := S160x20) ![0, 0] S160x20.size inb_S160x20_S160x20_0_0).toLoadRect f8
  Gd := M9.view.readAt (Elt F) (Rect.unit (s := S32x4) ![0, 0] S32x4.size inb_S32x4_S32x4_0_0).toLoadRect f9
  S := S

theorem W13 : (bodyRun c i M2 h2 M3 h3 M4 h4 M5 h5 M6 h6 M7 h7 M8 h8 M9 h9 M10 h10 M11 h11 M12 h12 M13 h13 M14 h14 f2 f3 f4 f5 f6 f7 f8 f9 f10 f11 f12 f13 f14).1.2.2.2.1 = n4 i (ins c M2 M3 M4 M5 M6 M7 M8 M9 f2 f3 f4 f5 f6 f7 f8 f9 noRows) f13 (fun hc => ins c M2 M3 M4 M5 M6 M7 M8 M9 f2 f3 f4 f5 f6 f7 f8 f9 (rows c i M12 f12 hc)) := by sl_kernel_rfl

theorem W14 : (bodyRun c i M2 h2 M3 h3 M4 h4 M5 h5 M6 h6 M7 h7 M8 h8 M9 h9 M10 h10 M11 h11 M12 h12 M13 h13 M14 h14 f2 f3 f4 f5 f6 f7 f8 f9 f10 f11 f12 f13 f14).1.2.2.2.2 = d4 i (ins c M2 M3 M4 M5 M6 M7 M8 M9 f2 f3 f4 f5 f6 f7 f8 f9 noRows) f14 (fun hc => ins c M2 M3 M4 M5 M6 M7 M8 M9 f2 f3 f4 f5 f6 f7 f8 f9 (rows c i M12 f12 hc)) := by sl_kernel_rfl

theorem W12 : (bodyRun c i M2 h2 M3 h3 M4 h4 M5 h5 M6 h6 M7 h7 M8 h8 M9 h9 M10 h10 M11 h11 M12 h12 M13 h13 M14 h14 f2 f3 f4 f5 f6 f7 f8 f9 f10 f11 f12 f13 f14).1.2.2.1 =
    if _hc : k0_cond12 i = 1#1 then M12.view.writes (Elt F) f12 [⟨Rect.unit (s := S256x20) ![0, 0] S256x20.size inb_S256x20_S256x20_0_0,
      shapeCast S256x20 (spf i (ins c M2 M3 M4 M5 M6 M7 M8 M9 f2 f3 f4 f5 f6 f7 f8 f9 noRows) f13 f14 (fun hc => ins c M2 M3 M4 M5 M6 M7 M8 M9 f2 f3 f4 f5 f6 f7 f8 f9 (rows c i M12 f12 hc))) shapeCasts_S256x20_S256x20⟩] else f12 := by sl_kernel_rfl

theorem W11 : (bodyRun c i M2 h2 M3 h3 M4 h4 M5 h5 M6 h6 M7 h7 M8 h8 M9 h9 M10 h10 M11 h11 M12 h12 M13 h13 M14 h14 f2 f3 f4 f5 f6 f7 f8 f9 f10 f11 f12 f13 f14).1.2.1 =
    if _hc : k0_cond12 i = 1#1 then if _hc : k0_cond13 i = 1#1 then M11.view.writes (Elt F) f11 [⟨Rect.unit (s := S256x20) ![0, 0] S256x20.size inb_S256x20_S256x20_0_0,
      spf i (ins c M2 M3 M4 M5 M6 M7 M8 M9 f2 f3 f4 f5 f6 f7 f8 f9 noRows) f13 f14 (fun hc => ins c M2 M3 M4 M5 M6 M7 M8 M9 f2 f3 f4 f5 f6 f7 f8 f9 (rows c i M12 f12 hc))⟩] else f11 else f11 := by sl_kernel_rfl

theorem W10 : (bodyRun c i M2 h2 M3 h3 M4 h4 M5 h5 M6 h6 M7 h7 M8 h8 M9 h9 M10 h10 M11 h11 M12 h12 M13 h13 M14 h14 f2 f3 f4 f5 f6 f7 f8 f9 f10 f11 f12 f13 f14).1.1 =
    if _hc : k0_cond12 i = 1#1 then
      if _hc : k0_cond13 i = 1#1 then
        if hc : k0_cond3 i = 1#1 then M10.view.writes (Elt F) f10 (qL i ((fun hc => ins c M2 M3 M4 M5 M6 M7 M8 M9 f2 f3 f4 f5 f6 f7 f8 f9 (rows c i M12 f12 hc)) hc)) else f10
      else if _hc : k0_cond3 i = 1#1 then f10 else f10
    else
      if hc : k0_cond3 i = 1#1 then
        if _hc : k0_cond11 i = 1#1 then M10.view.writes (Elt F) f10 (qL i ((fun hc => ins c M2 M3 M4 M5 M6 M7 M8 M9 f2 f3 f4 f5 f6 f7 f8 f9 (rows c i M12 f12 hc)) hc)) else f10
      else f10 := by sl_kernel_rfl

end

end Cert.KernelIdeal.Proof.Bridge

end
-- ==== Proof.Point.lean ====
module

public import proofs.«01_k».proof.Proof.Elem
public import proofs.«01_k».proof.Proof.Bridge

@[expose] public section

set_option maxRecDepth 16384

noncomputable section

/- What one grid point computes, as real numbers. -/
namespace Cert.KernelIdeal.Proof.Point

open Cert.KernelIdeal Cert.KernelIdeal.Gen Cert.KernelIdeal.Proof.Model Cert.KernelIdeal.Proof.Elem Cert.KernelIdeal.Proof.Bridge
open Idealize.ShloMosaic Idealize.ShloMosaic.Tactic
open Cert.Spec Cert.Softmax

/-- A sum over rows in blocks of `n`. -/
theorem sum_split (m n : ℕ) (f : Fin (m * n) → ℝ) :
    (∑ p, f p) = ∑ a : Fin m, ∑ r : Fin n, f ⟨a.val * n + r.val, by
      have := Nat.mul_le_mul_right n (Nat.succ_le_of_lt a.isLt); have := r.isLt; rw [Nat.succ_mul] at *; omega⟩ := by
  rw [← finProdFinEquiv.sum_comp, Fintype.sum_prod_type]
  refine Finset.sum_congr rfl fun a _ => Finset.sum_congr rfl fun r _ => congrArg f (Fin.ext ?_)
  simp [finProdFinEquiv]; ring

/-- One block's part of it. -/
theorem sum_block (m n : ℕ) (g : ℕ) (hg : g < m) (f : Fin (m * n) → ℝ) :
    (∑ p : Fin (m * n), if p.val / n = g then f p else 0) = ∑ r : Fin n, f ⟨g * n + r.val, by
      have := Nat.mul_le_mul_right n (Nat.succ_le_of_lt hg); have := r.isLt; rw [Nat.succ_mul] at *; omega⟩ := by
  rw [sum_split]
  rw [Finset.sum_eq_single (⟨g, hg⟩ : Fin m)]
  · refine Finset.sum_congr rfl fun r _ => if_pos ?_
    have := r.isLt
    show (g * n + r.val) / n = g
    rw [Nat.mul_comm, Nat.mul_add_div (by omega), Nat.div_eq_of_lt r.isLt, Nat.add_zero]
  · intro a _ ha
    refine Finset.sum_eq_zero fun r _ => if_neg ?_
    have := r.isLt
    show ¬(a.val * n + r.val) / n = g
    rw [Nat.mul_comm, Nat.mul_add_div (by omega), Nat.div_eq_of_lt r.isLt, Nat.add_zero]
    exact fun e => ha (Fin.ext e)
  · exact fun h => absurd (Finset.mem_univ _) h

theorem sum_cols (b : Fin 4) (f : Fin 20 → ℝ) : (∑ h : Fin 20, if h.val / 5 = b.val then f h else 0) = ∑ c : Fin 5, f ⟨b.val * 5 + c.val, by omega⟩ :=
  sum_block 4 5 b.val b.isLt f
theorem sum_rows160 (g : Fin 20) (f : Fin 160 → ℝ) : (∑ p : Fin 160, if p.val / 8 = g.val then f p else 0) = ∑ r : Fin 8, f ⟨g.val * 8 + r.val, by omega⟩ :=
  sum_block 20 8 g.val g.isLt f
theorem sum_rows32 (g : Fin 4) (f : Fin 32 → ℝ) : (∑ p : Fin 32, if p.val / 8 = g.val then f p else 0) = ∑ r : Fin 8, f ⟨g.val * 8 + r.val, by omega⟩ :=
  sum_block 4 8 g.val g.isLt f
theorem sum_rows24 (f : Fin 24 → ℝ) : (∑ y : Fin 24, f y) = ∑ e : Fin 3, ∑ r : Fin 8, f ⟨e.val * 8 + r.val, by omega⟩ := sum_split 3 8 f

/-- Rows gathered eight apart, and then each superpixel column's pixels, are all the rows. -/
theorem gather (J : Fin 16) (f : Fin 3 → Fin 24 → Fin 384 → ℝ) :
    (∑ r : Fin 8, ∑ t : Fin 3, ∑ x : Fin 384, if near (x.val / 24) t = J then ∑ e : Fin 3, f t ⟨e.val * 8 + r.val, by omega⟩ x else 0)
      = ∑ y : Fin 24, ∑ t : Fin 3, ∑ x : Fin 384, if near (x.val / 24) t = J then f t y x else 0 := by
  rw [sum_rows24]
  symm
  rw [Finset.sum_comm]
  refine Finset.sum_congr rfl fun r _ => ?_
  rw [Finset.sum_comm]
  refine Finset.sum_congr rfl fun t _ => ?_
  rw [Finset.sum_comm]
  refine Finset.sum_congr rfl fun x _ => ?_
  split
  · rfl
  · exact Finset.sum_const_zero

theorem gather1 (J : Fin 16) (t : Fin 3) (f : Fin 24 → Fin 384 → ℝ) :
    (∑ r : Fin 8, ∑ x : Fin 384, if near (x.val / 24) t = J then ∑ e : Fin 3, f ⟨e.val * 8 + r.val, by omega⟩ x else 0)
      = ∑ y : Fin 24, ∑ x : Fin 384, if near (x.val / 24) t = J then f y x else 0 := by
  rw [sum_rows24]
  symm
  rw [Finset.sum_comm]
  refine Finset.sum_congr rfl fun r _ => ?_
  rw [Finset.sum_comm]
  refine Finset.sum_congr rfl fun x _ => ?_
  split
  · rfl
  · exact Finset.sum_const_zero

/-- Row `o` of the ten that row block `rb` touches. -/
def row10 (rb : ℕ) (o : Fin 10) : Fin 16 := ⟨min (8 * rb + o.val - 1) 15, by omega⟩

/-- The pixels and the tables are what they should be at row block `rb`. -/
structure Good (I : Ins Ideal) (rb : ℕ) (X : Fin 4 → Fin 5 → ℕ → ℕ → ℝ) : Prop where
  x : ∀ (b : Fin 4) (c : Fin 5) (y : Fin 192) (l : Fin 384), I.X (ix4 b c y l) = ((X b c (192 * rb + y.val) l.val : ℝ) : EReal)
  e : ∀ (t : Fin 3) (l : Fin 384) (j : Fin 16), I.E t (ix3 0 l j) = if near (l.val / 24) t = j then 1 else 0
  g : ∀ (t : Fin 3) (l : Fin 384) (j : Fin 16), I.G t (ix3 0 j l) = if near (l.val / 24) t = j then 1 else 0
  c : ∀ (t : Fin 3) (l : Fin 384), I.C t (ix3 0 0 l) < 0 ↔ ¬inside (l.val / 24) t
  r : ∀ (b : Fin 4) (g : Fin 20), I.R (ix2 b g) = if g.val / 5 = b.val then 1 else 0
  r2 : ∀ (g : Fin 20) (b : Fin 4), 0 < I.R2 (ix2 g b) ↔ g.val / 5 = b.val
  gn : ∀ (p : Fin 160) (g : Fin 20), I.Gn (ix2 p g) = if p.val / 8 = g.val then 1 else 0
  gd : ∀ (p : Fin 32) (b : Fin 4), I.Gd (ix2 p b) = if p.val / 8 = b.val then 1 else 0

/-- The superpixels read are `S`. -/
def Reads (I : Ins Ideal) (rb : ℕ) (S : Fin 16 → Fin 16 → Fin 4 → Fin 5 → ℝ) : Prop :=
  ∀ (o : Fin 10) (j : Fin 16) (g : Fin 20), I.S o (ix2 j g) = ((S (row10 rb o) j ⟨g.val / 5, by omega⟩ ⟨g.val % 5, by omega⟩ : ℝ) : EReal)

theorem row_bit : ∀ (rb : Fin 2) (o : Fin 10), Scalar.andi (Scalar.cmpi .sge (Scalar.subi (Scalar.addi (Scalar.muli (BitVec.ofNat 32 rb.val) 8#32) (BitVec.ofNat 32 o.val)) 1#32) 0#32)
      (Scalar.cmpi .slt (Scalar.subi (Scalar.addi (Scalar.muli (BitVec.ofNat 32 rb.val) 8#32) (BitVec.ofNat 32 o.val)) 1#32) 16#32) = 1#1
    ↔ 1 ≤ 8 * rb.val + o.val ∧ 8 * rb.val + o.val ≤ 16 := by decide

theorem zero_val : (zero : Ideal .f32) = (0 : EReal) := by
  show Ideal.ofBits .f32 0x00000000#32 = 0
  simp [Ideal.ofBits, Ideal.ieee]

theorem rbias_val (rb : ℕ) (hrb : rb < 2) (s : Fin 8) (ty : Fin 3) :
    (rbias (BitVec.ofNat 32 rb) (BitVec.ofNat 32 (s.val + ty.val)) : Ideal .f32) = if inside (8 * rb + s.val) ty then (0 : EReal) else ⊥ := by
  have h := row_bit ⟨rb, hrb⟩ ⟨s.val + ty.val, by omega⟩
  unfold rbias
  show (if _ = 1#1 then (zero : Ideal .f32) else mask) = _
  rw [zero_val, show (mask : Ideal .f32) = (⊥ : EReal) from mask_val]
  refine if_congr (h.trans ?_) rfl rfl
  show _ ↔ 1 ≤ 8 * rb + s.val + ty.val ∧ 8 * rb + s.val + ty.val ≤ 16
  rw [Nat.add_assoc]

/-- A masked scaled minus squared distance. -/
theorem nd_real (x : FVec Ideal S4x5x24x384 .f32) (m2 : FVec Ideal S4x5x1x384 .f32) (bs : FVec Ideal S4x384 .f32) (b : Fin 4) (y : Fin 24) (l : Fin 384)
    (L : ℝ) (hL : (Named.named (F := Ideal) κ "log2e" (φ := .f32) 0x3FB8AA3B#32) = ((L : ℝ) : EReal)) (ξ σ : Fin 5 → ℝ) (P : Prop) [Decidable P]
    (hx : ∀ c, x (ix4 b c y l) = ((ξ c : ℝ) : EReal)) (hm : ∀ c, m2 (ix4 b c 0 l) = ((2 * L * σ c : ℝ) : EReal))
    (hb : bs (ix2 b l) = if P then ((-∑ c, σ c * σ c * L : ℝ) : EReal) else ⊥) :
    nd x m2 bs (ix3 b y l) = if P then ((L * -∑ c, (ξ c - σ c) * (ξ c - σ c) : ℝ) : EReal) else ⊥ := by
  rw [nd_at]
  simp only [hx, hm, hb]
  rw [show ((log2e : Ideal .f32)) = ((L : ℝ) : EReal) from hL]
  simp only [← EReal.coe_mul, coe_sum]
  split
  · rw [← EReal.coe_sub, ← EReal.coe_add]
    congr 1
    simp only [mul_neg, Finset.mul_sum, ← Finset.sum_neg_distrib, ← Finset.sum_sub_distrib, ← Finset.sum_add_distrib]
    refine Finset.sum_congr rfl fun c _ => ?_
    ring
  · rw [EReal.bot_sub, EReal.bot_add]

section
variable {I : Ins Ideal} {rb : ℕ} {X : Fin 4 → Fin 5 → ℕ → ℕ → ℝ} {S : Fin 16 → Fin 16 → Fin 4 → Fin 5 → ℝ}

theorem xs_real (h : Good I rb X) (s : Fin 8) (b : Fin 4) (c : Fin 5) (y : Fin 24) (l : Fin 384) :
    xs I.X s (ix4 b c y l) = ((X b c (24 * (8 * rb + s.val) + y.val) l.val : ℝ) : EReal) := by
  rw [xs_at, h.x]
  congr 2
  show 192 * rb + (24 * s.val + y.val) = _
  omega

/-- Each of the nine distances, at each pixel. -/
theorem nds_real (h : Good I rb X) (hS : Reads I rb S) (hrb : rb < 2) (i : grid0.Coords) (hi : (i 1).val = rb) (s : Fin 8) (ty tx : Fin 3)
    (b : Fin 4) (y : Fin 24) (l : Fin 384) :
    I.nds i s ty tx (ix3 b y l) = if inside ((24 * (8 * rb + s.val) + y.val) / 24) ty ∧ inside (l.val / 24) tx
      then (((Real.log 2)⁻¹ * logit X S b (24 * (8 * rb + s.val) + y.val) l.val ty tx : ℝ) : EReal) else ⊥ := by
  have hd : (24 * (8 * rb + s.val) + y.val) / 24 = 8 * rb + s.val := by omega
  unfold Ins.nds Model.nds
  rw [hi]
  have hrow : row10 rb ⟨s.val + ty.val, by omega⟩ = near (8 * rb + s.val) ty := Fin.ext (by
    show min (8 * rb + (s.val + ty.val) - 1) 15 = min (8 * rb + s.val + ty.val - 1) 15
    rw [Nat.add_assoc])
  rw [nd_real _ _ _ b y l _ log2e_val (fun c => X b c (24 * (8 * rb + s.val) + y.val) l.val) (fun c => S (near (8 * rb + s.val) ty) (near (l.val / 24) tx) b c)
    (inside (8 * rb + s.val) ty ∧ inside (l.val / 24) tx) (fun c => xs_real h s b c y l)]
  · rw [hd]; unfold logit; rw [hd]
  · intro c
    rw [m2_at]
    simp only [h.g]
    rw [sum_pick, hS, hrow, show (twoLog2e : Ideal .f32) = _ from twoLog2e_val, ← EReal.coe_mul]
    have h1 : (⟨(b.val * 5 + c.val) / 5, by omega⟩ : Fin 4) = b := Fin.ext (by show (b.val * 5 + c.val) / 5 = b.val; omega)
    have h2 : (⟨(b.val * 5 + c.val) % 5, by omega⟩ : Fin 5) = c := Fin.ext (by show (b.val * 5 + c.val) % 5 = c.val; omega)
    rw [h1, h2]
  · rw [base_at, rbias_val rb hrb]
    simp only [h.g]
    rw [sum_pick]
    simp only [hS _ _ _, hrow, ← EReal.coe_mul, h.r2, h.c]
    rw [show (log2e : Ideal .f32) = _ from log2e_val, show (mask : Ideal .f32) = (⊥ : EReal) from mask_val]
    have hsum : (∑ g : Fin 20, ((S (near (8 * rb + s.val) ty) (near (l.val / 24) tx) ⟨g.val / 5, by omega⟩ ⟨g.val % 5, by omega⟩
          * S (near (8 * rb + s.val) ty) (near (l.val / 24) tx) ⟨g.val / 5, by omega⟩ ⟨g.val % 5, by omega⟩ : ℝ) : EReal)
          * (if g.val / 5 = b.val then (((Real.log 2)⁻¹ : ℝ) : EReal) else 0))
        = ((∑ c : Fin 5, S (near (8 * rb + s.val) ty) (near (l.val / 24) tx) b c * S (near (8 * rb + s.val) ty) (near (l.val / 24) tx) b c * (Real.log 2)⁻¹ : ℝ) : EReal) := by
      have := sum_cols b fun g => S (near (8 * rb + s.val) ty) (near (l.val / 24) tx) ⟨g.val / 5, by omega⟩ ⟨g.val % 5, by omega⟩
          * S (near (8 * rb + s.val) ty) (near (l.val / 24) tx) ⟨g.val / 5, by omega⟩ ⟨g.val % 5, by omega⟩ * (Real.log 2)⁻¹
      rw [show (∑ c : Fin 5, S (near (8 * rb + s.val) ty) (near (l.val / 24) tx) b c * S (near (8 * rb + s.val) ty) (near (l.val / 24) tx) b c * (Real.log 2)⁻¹)
        = _ from (Finset.sum_congr rfl fun c _ => ?_).trans this.symm, ← coe_sum]
      · refine Finset.sum_congr rfl fun g _ => ?_
        split
        · rw [← EReal.coe_mul]
        · rw [mul_zero, EReal.coe_zero]
      · have h1 : (⟨(b.val * 5 + c.val) / 5, by omega⟩ : Fin 4) = b := Fin.ext (by show (b.val * 5 + c.val) / 5 = b.val; omega)
        have h2 : (⟨(b.val * 5 + c.val) % 5, by omega⟩ : Fin 5) = c := Fin.ext (by show (b.val * 5 + c.val) % 5 = c.val; omega)
        rw [h1, h2]
    rw [hsum]
    by_cases h1 : inside (8 * rb + s.val) ty <;> by_cases h2 : inside (l.val / 24) tx <;> simp [h1, h2, -EReal.coe_mul, -EReal.coe_neg]
    · exact (EReal.coe_neg _).symm

/-- A pixel's weight, and what it gives: exactly a share. -/
theorem share_real (h : Good I rb X) (hS : Reads I rb S) (hrb : rb < 2) (i : grid0.Coords) (hi : (i 1).val = rb) (s : Fin 8)
    (b : Fin 4) (y : Fin 24) (l : Fin 384) :
    ∃ (w : Fin 3 → Fin 3 → ℝ) (z : ℝ), (∀ ty tx, ex (I.nds i s) ty tx (ix3 b y l) = ((w ty tx : ℝ) : EReal)) ∧ rs (I.nds i s) (ix3 b y l) = ((z : ℝ) : EReal) ∧
      ∀ ty tx, w ty tx * z = Q X S b (24 * (8 * rb + s.val) + y.val) l.val ty tx := by
  obtain ⟨k, hk, he, hr⟩ := shares (fun ty tx => inside ((24 * (8 * rb + s.val) + y.val) / 24) ty ∧ inside (l.val / 24) tx)
    (fun ty tx => logit X S b (24 * (8 * rb + s.val) + y.val) l.val ty tx) (fun ty tx => I.nds i s ty tx (ix3 b y l))
    (fun ty tx => nds_real h hS hrb i hi s ty tx b y l) ⟨inside_mid _ (by omega), inside_mid _ (by omega)⟩
  refine ⟨_, _, fun ty tx => (ex_at _ ty tx b y l).trans (he ty tx), ((rs_at _ b y l).trans (congrArg (fun n => Ideal.div 1 (sm9 n)) (funext fun ty => funext fun tx => ex_at _ ty tx b y l))).trans hr, fun ty tx => ?_⟩
  have := wt_total_pos X S b (24 * (8 * rb + s.val) + y.val) l.val (by omega) (by omega)
  unfold Q
  unfold wt at this ⊢
  field_simp

theorem q_real (h : Good I rb X) (hS : Reads I rb S) (hrb : rb < 2) (i : grid0.Coords) (hi : (i 1).val = rb) (s : Fin 8) (ty tx : Fin 3)
    (b : Fin 4) (y : Fin 24) (l : Fin 384) : qv (I.nds i s) ty tx (ix3 b y l) = ((Q X S b (24 * (8 * rb + s.val) + y.val) l.val ty tx : ℝ) : EReal) := by
  obtain ⟨w, z, hw, hz, hq⟩ := share_real h hS hrb i hi s b y l
  rw [qv_at, hw, hz, ← EReal.coe_mul, hq]

theorem pN_real (h : Good I rb X) (hS : Reads I rb S) (hrb : rb < 2) (i : grid0.Coords) (hi : (i 1).val = rb) (s : Fin 8) (ty tx : Fin 3)
    (p : Fin 160) (l : Fin 384) : pN (xs I.X s) (I.nds i s) ty tx (ix2 p l) = ((∑ e : Fin 3,
      Q X S ⟨p.val / 8 / 5, by omega⟩ (24 * (8 * rb + s.val) + (e.val * 8 + p.val % 8)) l.val ty tx
        * X ⟨p.val / 8 / 5, by omega⟩ ⟨p.val / 8 % 5, by omega⟩ (24 * (8 * rb + s.val) + (e.val * 8 + p.val % 8)) l.val : ℝ) : EReal) := by
  rw [pN_at, ← coe_sum]
  refine Finset.sum_congr rfl fun e _ => ?_
  obtain ⟨w, z, hw, hz, hq⟩ := share_real h hS hrb i hi s ⟨p.val / 8 / 5, by omega⟩ ⟨e.val * 8 + p.val % 8, by omega⟩ l
  rw [hw, hz, xs_real h, ← EReal.coe_mul, ← EReal.coe_mul]
  congr 1
  rw [← hq ty tx]
  ring

theorem pD_real (h : Good I rb X) (hS : Reads I rb S) (hrb : rb < 2) (i : grid0.Coords) (hi : (i 1).val = rb) (s : Fin 8) (ty tx : Fin 3)
    (p : Fin 32) (l : Fin 384) : pD (I.nds i s) ty tx (ix2 p l) = ((∑ e : Fin 3,
      Q X S ⟨p.val / 8, by omega⟩ (24 * (8 * rb + s.val) + (e.val * 8 + p.val % 8)) l.val ty tx : ℝ) : EReal) := by
  rw [pD_at, ← coe_sum]
  exact Finset.sum_congr rfl fun e _ => q_real h hS hrb i hi s ty tx _ _ l

/-- A product with a table's row of ones. -/
theorem one_mul_coe (p : Prop) [Decidable p] (r : ℝ) : (if p then (1 : EReal) else 0) * ((r : ℝ) : EReal) = (((if p then r else 0) : ℝ) : EReal) := by
  split
  · rw [one_mul]
  · rw [zero_mul, EReal.coe_zero]
theorem coe_mul_one (p : Prop) [Decidable p] (r : ℝ) : ((r : ℝ) : EReal) * (if p then (1 : EReal) else 0) = (((if p then r else 0) : ℝ) : EReal) := by
  rw [mul_comm, one_mul_coe]

theorem cN_real (h : Good I rb X) (hS : Reads I rb S) (hrb : rb < 2) (i : grid0.Coords) (hi : (i 1).val = rb) (s : Fin 8) (ty : Fin 3)
    (j : Fin 16) (g : Fin 20) : cN I.E I.Gn (xs I.X s) (I.nds i s) ty (ix2 j g)
      = ((cn X S (8 * rb + s.val) ty j ⟨g.val / 5, by omega⟩ ⟨g.val % 5, by omega⟩ : ℝ) : EReal) := by
  rw [cN_at]
  simp only [scN_at, pN_real h hS hrb i hi, h.e, h.gn, one_mul_coe, coe_sum, ← EReal.coe_add, coe_mul_one]
  congr 1
  rw [sum_rows160]
  unfold cn
  rw [← gather j fun tx y l => Q X S ⟨g.val / 5, by omega⟩ (24 * (8 * rb + s.val) + y.val) l.val ty tx
    * X ⟨g.val / 5, by omega⟩ ⟨g.val % 5, by omega⟩ (24 * (8 * rb + s.val) + y.val) l.val]
  refine Finset.sum_congr rfl fun r _ => ?_
  have h1 : (g.val * 8 + r.val) / 8 = g.val := by omega
  have h2 : (g.val * 8 + r.val) % 8 = r.val := by omega
  rw [Fin.sum_univ_three (fun t : Fin 3 => ∑ x : Fin 384, _)]
  simp only [h1, h2]

theorem cD_real (h : Good I rb X) (hS : Reads I rb S) (hrb : rb < 2) (i : grid0.Coords) (hi : (i 1).val = rb) (s : Fin 8) (ty : Fin 3)
    (j : Fin 16) (g : Fin 4) : cD I.E I.Gd (I.nds i s) ty (ix2 j g) = ((cd X S (8 * rb + s.val) ty j g : ℝ) : EReal) := by
  rw [cD_at]
  simp only [scD_at, pD_real h hS hrb i hi, h.e, h.gd, one_mul_coe, coe_sum, ← EReal.coe_add, coe_mul_one]
  congr 1
  rw [sum_rows32]
  unfold cd
  rw [← gather j fun tx y l => Q X S g (24 * (8 * rb + s.val) + y.val) l.val ty tx]
  refine Finset.sum_congr rfl fun r _ => ?_
  have h1 : (g.val * 8 + r.val) / 8 = g.val := by omega
  have h2 : (g.val * 8 + r.val) % 8 = r.val := by omega
  rw [Fin.sum_univ_three (fun t : Fin 3 => ∑ x : Fin 384, _)]
  simp only [h1, h2]

theorem iN_real (h : Good I rb X) (s : Fin 8) (j : Fin 16) (g : Fin 20) : iN (I.E 1) I.Gn (xs I.X s) (ix2 j g)
      = ((isum X (8 * rb + s.val) j ⟨g.val / 5, by omega⟩ ⟨g.val % 5, by omega⟩ : ℝ) : EReal) := by
  rw [iN_at]
  simp only [xs_real h, h.e, h.gn, one_mul_coe, coe_sum, ← EReal.coe_add, coe_mul_one]
  congr 1
  rw [sum_rows160]
  unfold isum
  rw [← gather1 j 1 fun y l => X ⟨g.val / 5, by omega⟩ ⟨g.val % 5, by omega⟩ (24 * (8 * rb + s.val) + y.val) l.val]
  refine Finset.sum_congr rfl fun r _ => ?_
  have h1 : (g.val * 8 + r.val) / 8 = g.val := by omega
  have h2 : (g.val * 8 + r.val) % 8 = r.val := by omega
  simp only [h1, h2]

theorem cols_card (j : Fin 16) : (∑ x : Fin 384, if near (x.val / 24) 1 = j then (24 : ℝ) else 0) = 576 := by
  have := sum_block 16 24 j.val j.isLt fun _ => (24 : ℝ)
  refine (Finset.sum_congr rfl fun x _ => if_congr ?_ rfl rfl).trans (this.trans (by norm_num))
  rw [Fin.ext_iff]
  show min (x.val / 24 + 1 - 1) 15 = j.val ↔ _
  have : x.val < 384 := x.isLt
  omega

theorem iD_real (h : Good I rb X) (j : Fin 16) (b : Fin 4) : iD (I.E 1) (ix2 j b) = ((576 : ℝ) : EReal) := by
  rw [iD_at, ofBits_24]
  simp only [h.e, one_mul_coe, coe_sum]
  rw [cols_card]
end

end Cert.KernelIdeal.Proof.Point

end
-- ==== Proof.State.lean ====
module

public import proofs.«01_k».proof.Proof.Point
public import Idealize.ShloMosaic.Lib.Writes

@[expose] public section

set_option maxRecDepth 16384

noncomputable section

/- How one grid point changes the sums and the means that the kernel keeps. -/
namespace Cert.KernelIdeal.Proof.State

open Cert.KernelIdeal Cert.KernelIdeal.Gen Cert.KernelIdeal.Proof.Model Cert.KernelIdeal.Proof.Elem Cert.KernelIdeal.Proof.Bridge
open Cert.KernelIdeal.Proof.Point
open Idealize.ShloMosaic Idealize.ShloMosaic.Tactic
open Cert.Spec Cert.Softmax

section
variable {c n o : ℕ} {M : Memref sig .tc .vmem ⟨2, ![256, c]⟩ .f32} {off : Fin 2 → ℕ} (ho : off = ![o, 0])
  (h : ∀ a, off a + (⟨2, ![n, c]⟩ : Shape).size a ≤ (⟨2, ![256, c]⟩ : Shape).size a)
include ho h

theorem fits : o + n ≤ 256 := by
  have := h 0
  rw [ho] at this
  exact this

/-- Rows read after some are written. -/
theorem put_at (f : M.view.ty.Contents (Elt Ideal)) (w : (⟨2, ![n, c]⟩ : Shape).Idx → Elt Ideal .f32) (L : List (View.Piece (Elt Ideal) ⟨2, ![256, c]⟩ .f32))
    (a : Fin 256) (g : Fin c) :
    M.view.read (Elt Ideal) (M.view.writes (Elt Ideal) f (⟨Rect.unit (s := ⟨2, ![256, c]⟩) off (⟨2, ![n, c]⟩ : Shape).size h, w⟩ :: L)) (ix2 a g)
      = if hh : o ≤ a.val ∧ a.val < o + n then w (ix2 ⟨a.val - o, by omega⟩ g) else M.view.read (Elt Ideal) (M.view.writes (Elt Ideal) f L) (ix2 a g) := by
  subst ho
  split
  · rename_i hh
    refine View.read_writes_cons_hit_of_coords M.view f (Rect.unit (s := ⟨2, ![256, c]⟩) ![o, 0] (⟨2, ![n, c]⟩ : Shape).size h) w L (ix2 (⟨a.val - o, by omega⟩ : Fin n) g : (⟨2, ![n, c]⟩ : Shape).Idx) (ix2 a g) ?_
    refine Fin.forall_fin_two.mpr ⟨?_, ?_⟩
    · show a.val = o + 1 * (a.val - o); omega
    · show g.val = 0 + 1 * g.val; omega
  · rename_i hh
    exact View.read_writes_cons_miss_of_axis M.view f _ L (ix2 a g) (0 : Fin 2) o n rfl rfl rfl (by show a.val < o ∨ o + n ≤ a.val; omega)

/-- Rows loaded. -/
theorem get_at (f : M.view.ty.Contents (Elt Ideal)) (r : Fin n) (g : Fin c) :
    M.view.readAt (Elt Ideal) (Rect.unit (s := ⟨2, ![256, c]⟩) off (⟨2, ![n, c]⟩ : Shape).size h).toLoadRect f (ix2 r g)
      = M.view.read (Elt Ideal) f (ix2 ⟨o + r.val, by have := fits ho h; omega⟩ g) := by
  subst ho
  refine congrArg (M.view.read (Elt Ideal) f) (funext fun a => Fin.ext ?_)
  revert a
  refine Fin.forall_fin_two.mpr ⟨?_, ?_⟩
  · show o + 1 * r.val = o + r.val; omega
  · show 0 + 1 * g.val = g.val; omega

theorem sum_at (f : M.view.ty.Contents (Elt Ideal)) (w : FVec Ideal ⟨2, ![n, c]⟩ .f32) (hc : (⟨2, ![n, c]⟩ : Shape).ShapeCasts ⟨2, ![n, c]⟩) (r : Fin n) (g : Fin c) :
    shapeCast ⟨2, ![n, c]⟩ (addf (F := Ideal) (φ := .f32) (M.view.readAt (Elt Ideal) (Rect.unit (s := ⟨2, ![256, c]⟩) off (⟨2, ![n, c]⟩ : Shape).size h).toLoadRect f) w) hc (ix2 r g)
      = M.view.read (Elt Ideal) f (ix2 ⟨o + r.val, by have := fits ho h; omega⟩ g) + w (ix2 r g) := by
  rw [← get_at ho h]
  exact congrFun (shapeCast_id (s := ⟨2, ![n, c]⟩) _ hc) _

/-- Rows increased. -/
theorem add_at (f : M.view.ty.Contents (Elt Ideal)) (w : FVec Ideal ⟨2, ![n, c]⟩ .f32) (hc : (⟨2, ![n, c]⟩ : Shape).ShapeCasts ⟨2, ![n, c]⟩)
    (L : List (View.Piece (Elt Ideal) ⟨2, ![256, c]⟩ .f32)) (N : Fin 256 → Fin c → ℝ) (W : Fin n → Fin c → ℝ)
    (hf : ∀ a g, M.view.read (Elt Ideal) (M.view.writes (Elt Ideal) f L) (ix2 a g) = ((N a g : ℝ) : EReal)) (hw : ∀ r g, w (ix2 r g) = ((W r g : ℝ) : EReal)) (a : Fin 256) (g : Fin c) :
    M.view.read (Elt Ideal) (M.view.writes (Elt Ideal) f (⟨Rect.unit (s := ⟨2, ![256, c]⟩) off (⟨2, ![n, c]⟩ : Shape).size h,
        shapeCast ⟨2, ![n, c]⟩ (addf (F := Ideal) (φ := .f32) (M.view.readAt (Elt Ideal) (Rect.unit (s := ⟨2, ![256, c]⟩) off (⟨2, ![n, c]⟩ : Shape).size h).toLoadRect
          (M.view.writes (Elt Ideal) f L)) w) hc⟩ :: L)) (ix2 a g)
      = ((N a g + (if hh : o ≤ a.val ∧ a.val < o + n then W ⟨a.val - o, by omega⟩ g else 0) : ℝ) : EReal) := by
  rw [put_at ho h]
  split
  · rename_i hh
    rw [sum_at ho h, hw]
    have he : (⟨o + (a.val - o), by omega⟩ : Fin 256) = a := Fin.ext (by show o + (a.val - o) = a.val; omega)
    rw [show (⟨o + (⟨a.val - o, by omega⟩ : Fin n).val, by have := fits ho h; omega⟩ : Fin 256) = a from he, hf, EReal.coe_add]
  · rw [hf, add_zero]
end

/-- What a row block gives to each of the ten rows it touches, as real numbers. -/
def winR (C : Fin 8 → Fin 3 → ℝ) : Fin 10 → ℝ :=
  ![C 0 0, C 0 1 + C 1 0, C 0 2 + C 1 1 + C 2 0, C 1 2 + C 2 1 + C 3 0, C 2 2 + C 3 1 + C 4 0, C 3 2 + C 4 1 + C 5 0, C 4 2 + C 5 1 + C 6 0,
    C 5 2 + C 6 1 + C 7 0, C 6 2 + C 7 1, C 7 2]

theorem win_at {t : Shape} (c : Fin 8 → Fin 3 → FVec Ideal t .f32) (k : t.Idx) (C : Fin 8 → Fin 3 → ℝ) (hc : ∀ s ty, c s ty k = ((C s ty : ℝ) : EReal)) :
    ∀ o : Fin 10, win c o k = ((winR C o : ℝ) : EReal) := by
  have ha : ∀ (u v : FVec Ideal t .f32) (x y : ℝ), u k = ((x : ℝ) : EReal) → v k = ((y : ℝ) : EReal) → addf u v k = ((x + y : ℝ) : EReal) := by
    intro u v x y hu hv
    show (u k : EReal) + v k = _
    rw [hu, hv, EReal.coe_add]
  intro o
  fin_cases o
  · exact hc 0 0
  · exact ha _ _ _ _ (hc 0 1) (hc 1 0)
  · exact ha _ _ _ _ (ha _ _ _ _ (hc 0 2) (hc 1 1)) (hc 2 0)
  · exact ha _ _ _ _ (ha _ _ _ _ (hc 1 2) (hc 2 1)) (hc 3 0)
  · exact ha _ _ _ _ (ha _ _ _ _ (hc 2 2) (hc 3 1)) (hc 4 0)
  · exact ha _ _ _ _ (ha _ _ _ _ (hc 3 2) (hc 4 1)) (hc 5 0)
  · exact ha _ _ _ _ (ha _ _ _ _ (hc 4 2) (hc 5 1)) (hc 6 0)
  · exact ha _ _ _ _ (ha _ _ _ _ (hc 5 2) (hc 6 1)) (hc 7 0)
  · exact ha _ _ _ _ (hc 6 2) (hc 7 1)
  · exact hc 7 2

theorem winR_eq (C : Fin 8 → Fin 3 → ℝ) (o : Fin 10) : winR C o = ∑ s : Fin 8, ∑ ty : Fin 3, if s.val + ty.val = o.val then C s ty else 0 := by
  rw [Fin.sum_univ_eight]
  simp only [Fin.sum_univ_three]
  fin_cases o <;> simp [winR]

/-- What row block `rb` gives to row `R`: its own eight rows, the row above and the row below. -/
theorem win_rows (C : Fin 8 → Fin 3 → ℝ) (rb : ℕ) (hrb : rb < 2) (R : Fin 16) :
    (if h : 8 * rb ≤ R.val ∧ R.val < 8 * rb + 8 then winR C ⟨R.val - 8 * rb + 1, by omega⟩ else 0)
      + (if R.val = 7 * rb then winR C 0 else 0) + (if R.val = 7 * rb + 8 then winR C 9 else 0)
      = ∑ s : Fin 8, ∑ ty : Fin 3, if near (8 * rb + s.val) ty = R then C s ty else 0 := by
  have h1 : (∑ s : Fin 8, ∑ ty : Fin 3, if near (8 * rb + s.val) ty = R then C s ty else 0) = ∑ o : Fin 10, if row10 rb o = R then winR C o else 0 := by
    have h2 : ∀ (s : Fin 8) (ty : Fin 3), (if near (8 * rb + s.val) ty = R then C s ty else 0)
        = ∑ o : Fin 10, if row10 rb o = R then (if s.val + ty.val = o.val then C s ty else 0) else 0 := by
      intro s ty
      rw [Finset.sum_eq_single (⟨s.val + ty.val, by omega⟩ : Fin 10)]
      · rw [if_pos (rfl : s.val + ty.val = (⟨s.val + ty.val, by omega⟩ : Fin 10).val)]
        refine if_congr ?_ rfl rfl
        rw [show row10 rb ⟨s.val + ty.val, by omega⟩ = near (8 * rb + s.val) ty from Fin.ext (by
          show min (8 * rb + (s.val + ty.val) - 1) 15 = min (8 * rb + s.val + ty.val - 1) 15
          rw [Nat.add_assoc])]
      · intro o _ hne
        rw [show (if s.val + ty.val = o.val then C s ty else 0) = 0 from if_neg fun e => hne (Fin.ext e.symm), ite_self]
      · exact fun h => absurd (Finset.mem_univ _) h
    simp only [h2, winR_eq]
    rw [Finset.sum_congr rfl fun s _ => Finset.sum_comm, Finset.sum_comm]
    refine Finset.sum_congr rfl fun o _ => ?_
    split
    · rfl
    · simp only [Finset.sum_const_zero]
  rw [h1, Fin.sum_univ_succ, Fin.sum_univ_castSucc, add_comm (dite _ _ _) (ite _ _ _), add_assoc]
  have e0 : row10 rb 0 = R ↔ R.val = 7 * rb := by
    rw [Fin.ext_iff]; show min (8 * rb + 0 - 1) 15 = R.val ↔ _; omega
  have e9 : row10 rb (Fin.last 8).succ = R ↔ R.val = 7 * rb + 8 := by
    rw [Fin.ext_iff]; show min (8 * rb + 9 - 1) 15 = R.val ↔ _; omega
  have em : ∀ q : Fin 8, row10 rb q.castSucc.succ = R ↔ 8 * rb + q.val = R.val := fun q => by
    rw [Fin.ext_iff]; show min (8 * rb + (q.val + 1) - 1) 15 = R.val ↔ _; omega
  rw [if_congr e0 rfl rfl, if_congr e9 rfl rfl]
  congr 2
  split
  · rename_i h
    rw [Finset.sum_eq_single (⟨R.val - 8 * rb, by omega⟩ : Fin 8)]
    · rw [if_pos ((em _).mpr (by show 8 * rb + (R.val - 8 * rb) = R.val; omega))]; rfl
    · intro q _ hne
      exact if_neg fun e => hne (Fin.ext (by have := (em q).mp e; show q.val = R.val - 8 * rb; omega))
    · exact fun h => absurd (Finset.mem_univ _) h
  · rename_i h
    symm
    exact Finset.sum_eq_zero fun q _ => if_neg fun e => h (by have := (em q).mp e; omega)

theorem pick {c : ℕ} (w : Fin 10 → FVec Ideal ⟨2, ![16, c]⟩ .f32) (g : Fin c) {o o' : Fin 10} {a a' : Fin 16} (ho : o.val = o'.val) (ha : a.val = a'.val) :
    w o (ix2 a g) = w o' (ix2 a' g) := by
  rw [Fin.ext ho, Fin.ext ha]

/-- The stacked rows, one by one. -/
theorem inN_at (w : Fin 10 → FVec Ideal S16x20 .f32) (p : Fin 128) (g : Fin 20) :
    inN w (ix2 p g) = w ⟨p.val / 16 + 1, by omega⟩ (ix2 ⟨p.val % 16, by omega⟩ g) := by
  have hp := p.isLt
  pointwise [inN]
  split_ifs <;> refine pick w g ?_ ?_ <;> simp only [Fin.isValue, Fin.val_ofNat] <;> omega
theorem inD_at (w : Fin 10 → FVec Ideal S16x4 .f32) (p : Fin 128) (g : Fin 4) :
    inD w (ix2 p g) = w ⟨p.val / 16 + 1, by omega⟩ (ix2 ⟨p.val % 16, by omega⟩ g) := by
  have hp := p.isLt
  pointwise [inD]
  split_ifs <;> refine pick w g ?_ ?_ <;> simp only [Fin.isValue, Fin.val_ofNat] <;> omega

/-- What a point of iteration `it` adds to the sums of row `R`. -/
def pnum (X : Fin 4 → Fin 5 → ℕ → ℕ → ℝ) (it : ℕ) (S : Fin 16 → Fin 16 → Fin 4 → Fin 5 → ℝ) (rb : ℕ) (R J : Fin 16) (b : Fin 4) (c : Fin 5) : ℝ :=
  if it = 0 then (if 8 * rb ≤ R.val ∧ R.val < 8 * rb + 8 then isum X R.val J b c else 0)
  else ∑ s : Fin 8, ∑ ty : Fin 3, if near (8 * rb + s.val) ty = R then cn X S (8 * rb + s.val) ty J b c else 0
def pden (X : Fin 4 → Fin 5 → ℕ → ℕ → ℝ) (it : ℕ) (S : Fin 16 → Fin 16 → Fin 4 → Fin 5 → ℝ) (rb : ℕ) (R J : Fin 16) (b : Fin 4) : ℝ :=
  if it = 0 then (if 8 * rb ≤ R.val ∧ R.val < 8 * rb + 8 then 576 else 0)
  else ∑ s : Fin 8, ∑ ty : Fin 3, if near (8 * rb + s.val) ty = R then cd X S (8 * rb + s.val) ty J b else 0

theorem sum_halves (f : Fin 16 → ℝ) : (∑ s : Fin 8, f ⟨8 * 0 + s.val, by omega⟩) + (∑ s : Fin 8, f ⟨8 * 1 + s.val, by omega⟩) = ∑ r : Fin 16, f r := by
  rw [show (∑ r : Fin 16, f r) = _ from sum_split 2 8 f, Fin.sum_univ_two]
  refine congrArg₂ (· + ·) (Finset.sum_congr rfl fun s _ => congrArg f (Fin.ext ?_)) (Finset.sum_congr rfl fun s _ => congrArg f (Fin.ext ?_))
  · show 8 * 0 + s.val = 0 * 8 + s.val; omega
  · show 8 * 1 + s.val = 1 * 8 + s.val; omega

/-- The two row blocks together give the whole sums. -/
theorem pnum_total (X : Fin 4 → Fin 5 → ℕ → ℕ → ℝ) (it : ℕ) (S : Fin 16 → Fin 16 → Fin 4 → Fin 5 → ℝ) (R J : Fin 16) (b : Fin 4) (c : Fin 5) :
    pnum X it S 0 R J b c + pnum X it S 1 R J b c = if it = 0 then isum X R.val J b c else num X S R J b c := by
  unfold pnum
  split
  · by_cases h : R.val < 8
    · rw [if_pos (by omega), if_neg (by omega), add_zero]
    · rw [if_neg (by omega), if_pos (by omega), zero_add]
  · exact sum_halves fun r => ∑ ty : Fin 3, if near r.val ty = R then cn X S r.val ty J b c else 0
theorem pden_total (X : Fin 4 → Fin 5 → ℕ → ℕ → ℝ) (it : ℕ) (S : Fin 16 → Fin 16 → Fin 4 → Fin 5 → ℝ) (R J : Fin 16) (b : Fin 4) :
    pden X it S 0 R J b + pden X it S 1 R J b = if it = 0 then 576 else den X S R J b := by
  unfold pden
  split
  · by_cases h : R.val < 8
    · rw [if_pos (by omega), if_neg (by omega), add_zero]
    · rw [if_neg (by omega), if_pos (by omega), zero_add]
  · exact sum_halves fun r => ∑ ty : Fin 3, if near r.val ty = R then cd X S r.val ty J b else 0

/-- The same by scratch row and column. -/
def pN' (X : Fin 4 → Fin 5 → ℕ → ℕ → ℝ) (it : ℕ) (S : Fin 16 → Fin 16 → Fin 4 → Fin 5 → ℝ) (rb : ℕ) (a : Fin 256) (g : Fin 20) : ℝ :=
  pnum X it S rb ⟨a.val / 16, by omega⟩ ⟨a.val % 16, by omega⟩ ⟨g.val / 5, by omega⟩ ⟨g.val % 5, by omega⟩
def pD' (X : Fin 4 → Fin 5 → ℕ → ℕ → ℝ) (it : ℕ) (S : Fin 16 → Fin 16 → Fin 4 → Fin 5 → ℝ) (rb : ℕ) (a : Fin 256) (b : Fin 4) : ℝ :=
  pden X it S rb ⟨a.val / 16, by omega⟩ ⟨a.val % 16, by omega⟩ b

theorem off1_eq : ∀ (i : grid0.Coords) (s : Fin 8), k0_off1 i (BitVec.ofNat 32 s.val) = ![16 * (8 * (i 1).val + s.val), 0] := by decide +kernel
theorem off2_eq : ∀ (i : grid0.Coords) (s : Fin 8), k0_off2 i (BitVec.ofNat 32 s.val) = ![16 * (8 * (i 1).val + s.val), 0] := by decide +kernel
theorem off3_eq : ∀ (i : grid0.Coords) (o : Fin 10), k0_off3 i (BitVec.ofNat 32 o.val) = ![16 * min (8 * (i 1).val + o.val - 1) 15, 0] := by decide +kernel
theorem off4_eq : ∀ i : grid0.Coords, k0_off4 i = ![128 * (i 1).val, 0] := by decide +kernel
theorem off5_eq : ∀ i : grid0.Coords, k0_off5 i = ![128 * (i 1).val, 0] := by decide +kernel
theorem cond1_iff : ∀ i : grid0.Coords, cond1 i = 1#1 ↔ (i 0).val = 0 ∧ (i 1).val = 0 := by decide +kernel
theorem cond2_iff : ∀ i : grid0.Coords, k0_cond2 i = 1#1 ↔ (i 0).val = 0 := by decide +kernel
theorem cond3_iff : ∀ i : grid0.Coords, k0_cond3 i = 1#1 ↔ (i 0).val ≠ 0 := by decide +kernel
theorem cond11_iff : ∀ i : grid0.Coords, k0_cond11 i = 1#1 ↔ (i 0).val = 5 := by decide +kernel
theorem cond12_iff : ∀ i : grid0.Coords, k0_cond12 i = 1#1 ↔ (i 1).val = 1 := by decide +kernel
theorem cond13_iff : ∀ i : grid0.Coords, k0_cond13 i = 1#1 ↔ (i 0).val = 5 := by decide +kernel

/-- A list of rows, each of which takes what it adds from the same contents. -/
theorem puts_at {c : ℕ} {M : Memref sig .tc .vmem ⟨2, ![256, c]⟩ .f32} (rb : ℕ) (off : Fin 8 → Fin 2 → ℕ) (ho : ∀ s, off s = ![16 * (8 * rb + s.val), 0])
    (h : ∀ s a, off s a + (⟨2, ![16, c]⟩ : Shape).size a ≤ (⟨2, ![256, c]⟩ : Shape).size a)
    (f : M.view.ty.Contents (Elt Ideal)) (w : Fin 8 → (⟨2, ![16, c]⟩ : Shape).Idx → Elt Ideal .f32) (a : Fin 256) (g : Fin c) (v : EReal)
    (hw : ∀ s : Fin 8, 8 * rb + s.val = a.val / 16 → w s (ix2 ⟨a.val % 16, by omega⟩ g) = v) : ∀ L : List (Fin 8),
    M.view.read (Elt Ideal) (M.view.writes (Elt Ideal) f (L.map fun s => (⟨Rect.unit (s := ⟨2, ![256, c]⟩) (off s) (⟨2, ![16, c]⟩ : Shape).size (h s), w s⟩ : View.Piece (Elt Ideal) ⟨2, ![256, c]⟩ .f32))) (ix2 a g)
      = if ∃ s ∈ L, 8 * rb + s.val = a.val / 16 then v else M.view.read (Elt Ideal) f (ix2 a g)
  | [] => by rw [if_neg (by rintro ⟨s, hs, -⟩; exact List.not_mem_nil hs)]; rfl
  | s :: L => by
    rw [List.map_cons, put_at (ho s) (h s), puts_at rb off ho h f w a g v hw L]
    by_cases hs : 8 * rb + s.val = a.val / 16
    · rw [dif_pos (by omega), if_pos ⟨s, List.mem_cons_self, hs⟩, ← hw s hs]
      exact congrArg (fun z => w s (ix2 z g)) (Fin.ext (by show a.val - 16 * (8 * rb + s.val) = a.val % 16; omega))
    · rw [dif_neg (by omega)]
      refine if_congr ⟨fun ⟨u, hu, e⟩ => ⟨u, List.mem_cons_of_mem _ hu, e⟩, fun ⟨u, hu, e⟩ => ?_⟩ rfl rfl
      rcases List.mem_cons.mp hu with rfl | hu
      · exact absurd e hs
      · exact ⟨u, hu, e⟩

theorem exists_block (rb a : ℕ) : (∃ s ∈ ([7, 6, 5, 4, 3, 2, 1, 0] : List (Fin 8)), 8 * rb + s.val = a) ↔ 8 * rb ≤ a ∧ a < 8 * rb + 8 := by
  constructor
  · rintro ⟨s, -, hs⟩; omega
  · intro h
    refine ⟨⟨a - 8 * rb, by omega⟩, ?_, by show 8 * rb + (a - 8 * rb) = a; omega⟩
    generalize (⟨a - 8 * rb, by omega⟩ : Fin 8) = s
    revert s; decide

theorem own_rows (rb : ℕ) (a : Fin 256) (W : Fin 16 → Fin 10 → ℝ) :
    (if hh : 128 * rb ≤ a.val ∧ a.val < 128 * rb + 128 then W ⟨(a.val - 128 * rb) % 16, by omega⟩ ⟨(a.val - 128 * rb) / 16 + 1, by omega⟩ else 0)
      = if h : 8 * rb ≤ a.val / 16 ∧ a.val / 16 < 8 * rb + 8 then W ⟨a.val % 16, by omega⟩ ⟨a.val / 16 - 8 * rb + 1, by omega⟩ else 0 := by
  by_cases h : 8 * rb ≤ a.val / 16 ∧ a.val / 16 < 8 * rb + 8
  · rw [dif_pos h, dif_pos (by omega)]
    exact congrArg₂ W (Fin.ext (by show (a.val - 128 * rb) % 16 = a.val % 16; omega)) (Fin.ext (by show (a.val - 128 * rb) / 16 + 1 = a.val / 16 - 8 * rb + 1; omega))
  · rw [dif_neg h, dif_neg (by omega)]
theorem edge_row (q n : ℕ) (hn : n = 16 * q) (a : Fin 256) (W : Fin 16 → ℝ) :
    (if hh : n ≤ a.val ∧ a.val < n + 16 then W ⟨a.val - n, by omega⟩ else 0) = if a.val / 16 = q then W ⟨a.val % 16, by omega⟩ else 0 := by
  by_cases h : a.val / 16 = q
  · rw [if_pos h, dif_pos (by omega)]
    exact congrArg W (Fin.ext (by show a.val - n = a.val % 16; omega))
  · rw [if_neg h, dif_neg (by omega)]

section
variable (i : grid0.Coords) (I : Ins Ideal) {X : Fin 4 → Fin 5 → ℕ → ℕ → ℝ} {S : Fin 16 → Fin 16 → Fin 4 → Fin 5 → ℝ}
variable {M : Memref sig .tc .vmem S256x20 .f32} (f : M.view.ty.Contents (Elt Ideal))
variable {N : Memref sig .tc .vmem S256x4 .f32} (k : N.view.ty.Contents (Elt Ideal))

/-- The sums that a point starts from: none at the first point. -/
theorem n1_real (A : Fin 256 → Fin 20 → ℝ) (h0 : (i 0).val = 0 ∧ (i 1).val = 0 → ∀ a g, A a g = 0)
    (h1 : ¬((i 0).val = 0 ∧ (i 1).val = 0) → ∀ a g, M.view.read (Elt Ideal) f (ix2 a g) = ((A a g : ℝ) : EReal)) (a : Fin 256) (g : Fin 20) :
    M.view.read (Elt Ideal) (n1 i f) (ix2 a g) = ((A a g : ℝ) : EReal) := by
  unfold n1
  split
  · rename_i hc
    rw [h0 ((cond1_iff i).mp hc)]
    refine (put_at (n := 256) (o := 0) rfl inb_S256x20_S256x20_0_0 f (k0_pay1 (F := Ideal)) [] a g).trans ?_
    rw [dif_pos (by omega)]
    exact zero_val
  · rename_i hc
    exact h1 (fun h => hc ((cond1_iff i).mpr h)) a g
theorem d1_real (A : Fin 256 → Fin 4 → ℝ) (h0 : (i 0).val = 0 ∧ (i 1).val = 0 → ∀ a g, A a g = 0)
    (h1 : ¬((i 0).val = 0 ∧ (i 1).val = 0) → ∀ a g, N.view.read (Elt Ideal) k (ix2 a g) = ((A a g : ℝ) : EReal)) (a : Fin 256) (g : Fin 4) :
    N.view.read (Elt Ideal) (d1 i k) (ix2 a g) = ((A a g : ℝ) : EReal) := by
  unfold d1
  split
  · rename_i hc
    rw [h0 ((cond1_iff i).mp hc)]
    refine (put_at (n := 256) (o := 0) rfl inb_S256x4_S256x4_0_0 k (k0_pay2 (F := Ideal)) [] a g).trans ?_
    rw [dif_pos (by omega)]
    exact zero_val
  · rename_i hc
    exact h1 (fun h => hc ((cond1_iff i).mpr h)) a g

/-- The sums after a point. -/
theorem n3_real (J : k0_cond3 i = 1#1 → Ins Ideal) (hI : Good I (i 1).val X) (hJ : ∀ hc, Good (J hc) (i 1).val X ∧ Reads (J hc) (i 1).val S)
    (A : Fin 256 → Fin 20 → ℝ) (hA : ∀ a g, M.view.read (Elt Ideal) (n1 i f) (ix2 a g) = ((A a g : ℝ) : EReal)) (a : Fin 256) (g : Fin 20) :
    M.view.read (Elt Ideal) (n3 i I f J) (ix2 a g) = ((A a g + pN' X (i 0).val S (i 1).val a g : ℝ) : EReal) := by
  have hrb : (i 1).val < 2 := (i 1).isLt
  unfold n3 n2 pN' pnum
  by_cases h : (i 0).val = 0
  · rw [dif_neg (fun hc => (cond3_iff i).mp hc h), dif_pos ((cond2_iff i).mpr h), if_pos h]
    refine (puts_at (i 1).val (fun s => k0_off1 i (BitVec.ofNat 32 s.val)) (off1_eq i) (fun s => k0_off1_inb i ((cond2_iff i).mpr h) s) (n1 i f)
      (fun s => (pc1 i I ((cond2_iff i).mpr h) (n1 i f) s).2) a g
      ((A a g + isum X (a.val / 16) ⟨a.val % 16, by omega⟩ ⟨g.val / 5, by omega⟩ ⟨g.val % 5, by omega⟩ : ℝ) : EReal) ?_ [7, 6, 5, 4, 3, 2, 1, 0]).trans ?_
    · intro s hs
      refine (sum_at (off1_eq i s) (k0_off1_inb i ((cond2_iff i).mpr h) s) (n1 i f) _ shapeCasts_S16x20_S16x20 ⟨a.val % 16, by omega⟩ g).trans ?_
      rw [iN_real hI, EReal.coe_add, ← hA a g, ← hs]
      exact congrArg (· + _) (congrArg (fun z => M.view.read (Elt Ideal) (n1 i f) (ix2 z g)) (Fin.ext (by show 16 * (8 * (i 1).val + s.val) + a.val % 16 = a.val; omega)))
    · rw [if_congr (exists_block _ _) rfl rfl]
      split
      · rfl
      · rw [hA, add_zero]
  · have hc := (cond3_iff i).mpr h
    rw [dif_pos hc, dif_neg (fun hc => h ((cond2_iff i).mp hc)), if_neg h]
    obtain ⟨hG, hS⟩ := hJ hc
    rw [← win_rows (fun s ty => cn X S (8 * (i 1).val + s.val) ty ⟨a.val % 16, by omega⟩ ⟨g.val / 5, by omega⟩ ⟨g.val % 5, by omega⟩) (i 1).val hrb]
    have hw : ∀ (o : Fin 10) (r : Fin 16) (g : Fin 20), (J hc).wN i o (ix2 r g)
        = ((winR (fun s ty => cn X S (8 * (i 1).val + s.val) ty r ⟨g.val / 5, by omega⟩ ⟨g.val % 5, by omega⟩) o : ℝ) : EReal) := fun o r g =>
      win_at _ (ix2 r g) _ (fun s ty => cN_real hG hS hrb i rfl s ty r g) o
    have s1 := add_at (off4_eq i) (k0_off4_inb i hc) (n1 i f) (inN ((J hc).wN i)) shapeCasts_S128x20_S128x20 [] A _ hA
      (fun r g => (inN_at _ r g).trans (hw _ _ g))
    have s2 := add_at (off6_eq i) (k0_off6_inb i hc) (n1 i f) ((J hc).wN i 0) shapeCasts_S16x20_S16x20 (L1 i (J hc) hc (n1 i f)) _ _ s1 (hw 0)
    have s3 := add_at (off8_eq i) (k0_off8_inb i hc) (n1 i f) ((J hc).wN i 9) shapeCasts_S16x20_S16x20 (L2 i (J hc) hc (n1 i f)) _ _ s2 (hw 9) a g
    refine s3.trans (congrArg _ ?_)
    rw [add_assoc, add_assoc, ← add_assoc (dite _ _ _)]
    exact congrArg (A a g + ·) (congrArg₂ (· + ·) (congrArg₂ (· + ·)
      (own_rows (i 1).val a fun r o => winR (fun s ty => cn X S (8 * (i 1).val + s.val) ty r ⟨g.val / 5, by omega⟩ ⟨g.val % 5, by omega⟩) o)
      (edge_row (7 * (i 1).val) _ (by omega) a fun r => winR (fun s ty => cn X S (8 * (i 1).val + s.val) ty r ⟨g.val / 5, by omega⟩ ⟨g.val % 5, by omega⟩) 0))
      (edge_row (7 * (i 1).val + 8) _ (by omega) a fun r => winR (fun s ty => cn X S (8 * (i 1).val + s.val) ty r ⟨g.val / 5, by omega⟩ ⟨g.val % 5, by omega⟩) 9))
theorem d3_real (J : k0_cond3 i = 1#1 → Ins Ideal) (hI : Good I (i 1).val X) (hJ : ∀ hc, Good (J hc) (i 1).val X ∧ Reads (J hc) (i 1).val S)
    (A : Fin 256 → Fin 4 → ℝ) (hA : ∀ a g, N.view.read (Elt Ideal) (d1 i k) (ix2 a g) = ((A a g : ℝ) : EReal)) (a : Fin 256) (g : Fin 4) :
    N.view.read (Elt Ideal) (d3 i I k J) (ix2 a g) = ((A a g + pD' X (i 0).val S (i 1).val a g : ℝ) : EReal) := by
  have hrb : (i 1).val < 2 := (i 1).isLt
  unfold d3 d2 pD' pden
  by_cases h : (i 0).val = 0
  · rw [dif_neg (fun hc => (cond3_iff i).mp hc h), dif_pos ((cond2_iff i).mpr h), if_pos h]
    refine (puts_at (i 1).val (fun s => k0_off2 i (BitVec.ofNat 32 s.val)) (off2_eq i) (fun s => k0_off2_inb i ((cond2_iff i).mpr h) s) (d1 i k)
      (fun s => (pc2 i I ((cond2_iff i).mpr h) (d1 i k) s).2) a g
      ((A a g + 576 : ℝ) : EReal) ?_ [7, 6, 5, 4, 3, 2, 1, 0]).trans ?_
    · intro s hs
      refine (sum_at (off2_eq i s) (k0_off2_inb i ((cond2_iff i).mpr h) s) (d1 i k) _ shapeCasts_S16x4_S16x4 ⟨a.val % 16, by omega⟩ g).trans ?_
      rw [iD_real hI, EReal.coe_add, ← hA a g]
      exact congrArg (· + _) (congrArg (fun z => N.view.read (Elt Ideal) (d1 i k) (ix2 z g)) (Fin.ext (by show 16 * (8 * (i 1).val + s.val) + a.val % 16 = a.val; omega)))
    · rw [if_congr (exists_block _ _) rfl rfl]
      split
      · rfl
      · rw [hA, add_zero]
  · have hc := (cond3_iff i).mpr h
    rw [dif_pos hc, dif_neg (fun hc => h ((cond2_iff i).mp hc)), if_neg h]
    obtain ⟨hG, hS⟩ := hJ hc
    rw [← win_rows (fun s ty => cd X S (8 * (i 1).val + s.val) ty ⟨a.val % 16, by omega⟩ g) (i 1).val hrb]
    have hw : ∀ (o : Fin 10) (r : Fin 16) (g : Fin 4), (J hc).wD i o (ix2 r g)
        = ((winR (fun s ty => cd X S (8 * (i 1).val + s.val) ty r g) o : ℝ) : EReal) := fun o r g =>
      win_at _ (ix2 r g) _ (fun s ty => cD_real hG hS hrb i rfl s ty r g) o
    have s1 := add_at (off5_eq i) (k0_off5_inb i hc) (d1 i k) (inD ((J hc).wD i)) shapeCasts_S128x4_S128x4 [] A _ hA
      (fun r g => (inD_at _ r g).trans (hw _ _ g))
    have s2 := add_at (off7_eq i) (k0_off7_inb i hc) (d1 i k) ((J hc).wD i 0) shapeCasts_S16x4_S16x4 (K1 i (J hc) hc (d1 i k)) _ _ s1 (hw 0)
    have s3 := add_at (off9_eq i) (k0_off9_inb i hc) (d1 i k) ((J hc).wD i 9) shapeCasts_S16x4_S16x4 (K2 i (J hc) hc (d1 i k)) _ _ s2 (hw 9) a g
    refine s3.trans (congrArg _ ?_)
    rw [add_assoc, add_assoc, ← add_assoc (dite _ _ _)]
    exact congrArg (A a g + ·) (congrArg₂ (· + ·) (congrArg₂ (· + ·)
      (own_rows (i 1).val a fun r o => winR (fun s ty => cd X S (8 * (i 1).val + s.val) ty r g) o)
      (edge_row (7 * (i 1).val) _ (by omega) a fun r => winR (fun s ty => cd X S (8 * (i 1).val + s.val) ty r g) 0))
      (edge_row (7 * (i 1).val + 8) _ (by omega) a fun r => winR (fun s ty => cd X S (8 * (i 1).val + s.val) ty r g) 9))

/-- The means that the last row block makes. -/
theorem spf_real (J : k0_cond3 i = 1#1 → Ins Ideal) (hI : Good I (i 1).val X) (A : Fin 256 → Fin 20 → ℝ) (D : Fin 256 → Fin 4 → ℝ)
    (hA : ∀ a g, M.view.read (Elt Ideal) (n3 i I f J) (ix2 a g) = ((A a g : ℝ) : EReal))
    (hD : ∀ a b, N.view.read (Elt Ideal) (d3 i I k J) (ix2 a b) = ((D a b : ℝ) : EReal))
    (eps : ℝ) (he : Ideal.ofBits .f32 0x24E69595#32 = ((eps : ℝ) : EReal)) (heps : 0 < eps) (hD0 : ∀ a b, 0 ≤ D a b) (a : Fin 256) (g : Fin 20) :
    spf i I f k J (ix2 a g) = ((A a g / (if (i 0).val = 0 then max (D a ⟨g.val / 5, by omega⟩) 1 else D a ⟨g.val / 5, by omega⟩ + eps) : ℝ) : EReal) := by
  unfold spf
  rw [pay5_at]
  have hs : (∑ b : Fin 4, N.view.readAt (Elt Ideal) (Rect.unit (s := S256x4) ![0, 0] S256x4.size inb_S256x4_S256x4_0_0).toLoadRect (d3 i I k J) (ix2 a b) * I.R (ix2 b g))
      = ((D a ⟨g.val / 5, by omega⟩ : ℝ) : EReal) := by
    rw [Finset.sum_eq_single (⟨g.val / 5, by omega⟩ : Fin 4)]
    · rw [hI.r, if_pos rfl, mul_one, ← hD]
      refine (get_at (n := 256) (o := 0) rfl inb_S256x4_S256x4_0_0 (d3 i I k J) a _).trans ?_
      exact congrArg (fun z => N.view.read (Elt Ideal) (d3 i I k J) (ix2 z _)) (Fin.ext (by show 0 + a.val = a.val; omega))
    · intro b _ hb
      rw [hI.r, if_neg (fun e => hb (Fin.ext e.symm)), mul_zero]
    · exact fun h => absurd (Finset.mem_univ _) h
  have hn : M.view.readAt (Elt Ideal) (Rect.unit (s := S256x20) ![0, 0] S256x20.size inb_S256x20_S256x20_0_0).toLoadRect (n3 i I f J) (ix2 a g) = ((A a g : ℝ) : EReal) := by
    rw [← hA]
    refine (get_at (n := 256) (o := 0) rfl inb_S256x20_S256x20_0_0 (n3 i I f J) a g).trans ?_
    exact congrArg (fun z => M.view.read (Elt Ideal) (n3 i I f J) (ix2 z g)) (Fin.ext (by show 0 + a.val = a.val; omega))
  rw [hs, hn, he]
  have h0 := hD0 a ⟨g.val / 5, by omega⟩
  by_cases h : (i 0).val = 0
  · rw [if_pos h, if_pos h, show max ((D a ⟨g.val / 5, by omega⟩ : ℝ) : EReal) 1 = ((max (D a ⟨g.val / 5, by omega⟩) 1 : ℝ) : EReal) from
      (EReal.coe_strictMono.monotone.map_max (a := D a ⟨g.val / 5, by omega⟩) (b := 1)).symm, Ideal.div_coe (by positivity), ← EReal.coe_mul]
    congr 1; ring
  · rw [if_neg h, if_neg h, ← EReal.coe_add, Ideal.div_coe (by positivity), ← EReal.coe_mul]
    congr 1; ring

/-- The sums left for the next point. -/
theorem n4_real (J : k0_cond3 i = 1#1 → Ins Ideal) (A : Fin 256 → Fin 20 → ℝ)
    (hA : ∀ a g, M.view.read (Elt Ideal) (n3 i I f J) (ix2 a g) = ((A a g : ℝ) : EReal)) (a : Fin 256) (g : Fin 20) :
    M.view.read (Elt Ideal) (n4 i I f J) (ix2 a g) = ((if (i 1).val = 1 then 0 else A a g : ℝ) : EReal) := by
  unfold n4
  split
  · rename_i hc
    rw [if_pos ((cond12_iff i).mp hc)]
    refine (put_at (n := 256) (o := 0) rfl inb_S256x20_S256x20_0_0 (n3 i I f J) (k0_pay7 (F := Ideal)) [] a g).trans ?_
    rw [dif_pos (by omega)]
    exact zero_val
  · rename_i hc
    rw [if_neg (fun h => hc ((cond12_iff i).mpr h))]
    exact hA a g
theorem d4_real (J : k0_cond3 i = 1#1 → Ins Ideal) (A : Fin 256 → Fin 4 → ℝ)
    (hA : ∀ a g, N.view.read (Elt Ideal) (d3 i I k J) (ix2 a g) = ((A a g : ℝ) : EReal)) (a : Fin 256) (g : Fin 4) :
    N.view.read (Elt Ideal) (d4 i I k J) (ix2 a g) = ((if (i 1).val = 1 then 0 else A a g : ℝ) : EReal) := by
  unfold d4
  split
  · rename_i hc
    rw [if_pos ((cond12_iff i).mp hc)]
    refine (put_at (n := 256) (o := 0) rfl inb_S256x4_S256x4_0_0 (d3 i I k J) (k0_pay8 (F := Ideal)) [] a g).trans ?_
    rw [dif_pos (by omega)]
    exact zero_val
  · rename_i hc
    rw [if_neg (fun h => hc ((cond12_iff i).mpr h))]
    exact hA a g
end

end Cert.KernelIdeal.Proof.State

end
-- ==== Proof.Blocks.lean ====
module

public import proofs.«01_k».proof.Proof.Tables
public import proofs.«01_k».proof.Proof.TableE
public import proofs.«01_k».proof.Proof.TableG
public import proofs.«01_k».proof.Proof.State

@[expose] public section

set_option maxRecDepth 16384

noncomputable section

/- What the body's operands hold at a point of the grid: the row block's pixels and the tables. -/
namespace Cert.KernelIdeal.Proof.Blocks

open Cert.KernelIdeal Cert.KernelIdeal.Gen Cert.KernelIdeal.Proof Cert.KernelIdeal.Proof.Bridge Cert.KernelIdeal.Proof.Point Cert.KernelIdeal.Proof.State Cert.KernelIdeal.Proof.Tables
open Idealize.ShloMosaic Idealize.ShloMosaic.TcCoe Idealize.ShloMosaic.Tactic Cert.Spec

/-! ## The words of the tables -/

theorem one_bits : (FloatOps.ofBits (F := Ideal) .f32 0x3F800000#32) = (1 : EReal) := by
  show Ideal.ofBits .f32 0x3F800000#32 = ((1 : ℝ) : EReal)
  simp [Ideal.ofBits, Ideal.ieee, -EReal.coe_mul]; norm_num
theorem zero_bits : (FloatOps.ofBits (F := Ideal) .f32 0#32) = (0 : EReal) := zero_val
theorem neg_bits : (FloatOps.ofBits (F := Ideal) .f32 0xDA0E1BCA#32) < (0 : EReal) := by
  have h : Ideal.ofBits .f32 0xDA0E1BCA#32 = ((-(9313226 * 2 ^ 30 : ℝ) : ℝ) : EReal) := by
    simp [Ideal.ofBits, Ideal.ieee, -EReal.coe_mul]
  show Ideal.ofBits .f32 0xDA0E1BCA#32 < 0
  rw [h, ← EReal.coe_zero, EReal.coe_lt_coe_iff]; norm_num
theorem pos_bits : (0 : EReal) < (FloatOps.ofBits (F := Ideal) .f32 0x3FB8AA3B#32) := by
  have h : Ideal.ofBits .f32 0x3FB8AA3B#32 = (((12102203 / 2 ^ 23 : ℝ) : ℝ) : EReal) := by
    simp [Ideal.ofBits, Ideal.ieee, -EReal.coe_mul]; norm_num
  show 0 < Ideal.ofBits .f32 0x3FB8AA3B#32
  rw [h, ← EReal.coe_zero, EReal.coe_lt_coe_iff]; norm_num

variable (m : (ℓ : Loc nD τ sig) → Buf (Elt Ideal) ℓ) (c : Dev nD)

/-! ## The tables as the kernel finds them -/

theorem V_cst : V m c main_cst = (fun i => FloatOps.ofBits (F := Ideal) .f32 (lit0 (S3x384x16.rowMajor i)) : S3x384x16.Idx → Ideal .f32) := by
  show StableHlo.after hostOps0 _ (Proc.devRef .tc main_cst) = _
  after_results
  rfl
theorem V_cst_0 : V m c main_cst_0 = (fun i => FloatOps.ofBits (F := Ideal) .f32 (lit1 (S3x16x384.rowMajor i)) : S3x16x384.Idx → Ideal .f32) := by
  show StableHlo.after hostOps0 _ (Proc.devRef .tc main_cst_0) = _
  after_results
  rfl
theorem V_cst_1 : V m c main_cst_1 = (fun i => FloatOps.ofBits (F := Ideal) .f32 (lit2 (S3x1x384.rowMajor i)) : S3x1x384.Idx → Ideal .f32) := by
  show StableHlo.after hostOps0 _ (Proc.devRef .tc main_cst_1) = _
  after_results
  rfl
theorem V_cst_2 : V m c main_cst_2 = (fun i => FloatOps.ofBits (F := Ideal) .f32 (lit3 (S4x20.rowMajor i)) : S4x20.Idx → Ideal .f32) := by
  show StableHlo.after hostOps0 _ (Proc.devRef .tc main_cst_2) = _
  after_results
  rfl
theorem V_cst_3 : V m c main_cst_3 = (fun i => FloatOps.ofBits (F := Ideal) .f32 (lit4 (S20x4.rowMajor i)) : S20x4.Idx → Ideal .f32) := by
  show StableHlo.after hostOps0 _ (Proc.devRef .tc main_cst_3) = _
  after_results
  rfl
theorem V_cst_4 : V m c main_cst_4 = (fun i => FloatOps.ofBits (F := Ideal) .f32 (lit5 (S160x20.rowMajor i)) : S160x20.Idx → Ideal .f32) := by
  show StableHlo.after hostOps0 _ (Proc.devRef .tc main_cst_4) = _
  after_results
  rfl
theorem V_cst_5 : V m c main_cst_5 = (fun i => FloatOps.ofBits (F := Ideal) .f32 (lit6 (S32x4.rowMajor i)) : S32x4.Idx → Ideal .f32) := by
  show StableHlo.after hostOps0 _ (Proc.devRef .tc main_cst_5) = _
  after_results
  rfl

/-! ## Where a window's block lies -/

theorem coord1 : ∀ t : Fin cfg0.N, ((grid0.coords t) 1).val = t.val % 2 := (by decide +kernel : ∀ t : Fin grid0.N, _)
theorem coord0 : ∀ t : Fin cfg0.N, ((grid0.coords t) 0).val = t.val / 2 := (by decide +kernel : ∀ t : Fin grid0.N, _)
theorem at0 : ∀ t : Fin cfg0.N, win0_0.index t (0 : Fin 4) = 0 ∧ win0_0.index t (1 : Fin 4) = 0 ∧ win0_0.index t (2 : Fin 4) = ((grid0.coords t) 1).val ∧ win0_0.index t (3 : Fin 4) = 0 := (by decide +kernel : ∀ t : Fin grid0.N, _)
theorem at1 : ∀ t : Fin cfg0.N, ∀ a : Fin 3, win0_1.index t a = 0 := (by decide +kernel : ∀ t : Fin grid0.N, _)
theorem at2 : ∀ t : Fin cfg0.N, ∀ a : Fin 3, win0_2.index t a = 0 := (by decide +kernel : ∀ t : Fin grid0.N, _)
theorem at3 : ∀ t : Fin cfg0.N, ∀ a : Fin 3, win0_3.index t a = 0 := (by decide +kernel : ∀ t : Fin grid0.N, _)
theorem at4 : ∀ t : Fin cfg0.N, ∀ a : Fin 2, win0_4.index t a = 0 := (by decide +kernel : ∀ t : Fin grid0.N, _)
theorem at5 : ∀ t : Fin cfg0.N, ∀ a : Fin 2, win0_5.index t a = 0 := (by decide +kernel : ∀ t : Fin grid0.N, _)
theorem at6 : ∀ t : Fin cfg0.N, ∀ a : Fin 2, win0_6.index t a = 0 := (by decide +kernel : ∀ t : Fin grid0.N, _)
theorem at7 : ∀ t : Fin cfg0.N, ∀ a : Fin 2, win0_7.index t a = 0 := (by decide +kernel : ∀ t : Fin grid0.N, _)

theorem emb1 (t : Fin cfg0.N) (j : S3x384x16.Idx) : ((cfg0.win 1).blk t).view.emb j = j := by
  funext a; apply Fin.ext
  show win0_1.index t a * S3x384x16.size a + 1 * (j a).val = (j a).val
  rw [at1]; omega
theorem emb2 (t : Fin cfg0.N) (j : S3x16x384.Idx) : ((cfg0.win 2).blk t).view.emb j = j := by
  funext a; apply Fin.ext
  show win0_2.index t a * S3x16x384.size a + 1 * (j a).val = (j a).val
  rw [at2]; omega
theorem emb3 (t : Fin cfg0.N) (j : S3x1x384.Idx) : ((cfg0.win 3).blk t).view.emb j = j := by
  funext a; apply Fin.ext
  show win0_3.index t a * S3x1x384.size a + 1 * (j a).val = (j a).val
  rw [at3]; omega
theorem emb4 (t : Fin cfg0.N) (j : S4x20.Idx) : ((cfg0.win 4).blk t).view.emb j = j := by
  funext a; apply Fin.ext
  show win0_4.index t a * S4x20.size a + 1 * (j a).val = (j a).val
  rw [at4]; omega
theorem emb5 (t : Fin cfg0.N) (j : S20x4.Idx) : ((cfg0.win 5).blk t).view.emb j = j := by
  funext a; apply Fin.ext
  show win0_5.index t a * S20x4.size a + 1 * (j a).val = (j a).val
  rw [at5]; omega
theorem emb6 (t : Fin cfg0.N) (j : S160x20.Idx) : ((cfg0.win 6).blk t).view.emb j = j := by
  funext a; apply Fin.ext
  show win0_6.index t a * S160x20.size a + 1 * (j a).val = (j a).val
  rw [at6]; omega
theorem emb7 (t : Fin cfg0.N) (j : S32x4.Idx) : ((cfg0.win 7).blk t).view.emb j = j := by
  funext a; apply Fin.ext
  show win0_7.index t a * S32x4.size a + 1 * (j a).val = (j a).val
  rw [at7]; omega
theorem emb0 (t : Fin cfg0.N) (b : Fin 4) (ch : Fin 5) (y : Fin 192) (l : Fin 384) :
    ((cfg0.win 0).blk t).view.emb (ix4 b ch y l) = (ix4 b ch ⟨192 * ((grid0.coords t) 1).val + y.val, by have := coord1 t; omega⟩ l : S4x5x384x384.Idx) := by
  obtain ⟨e0, e1, e2, e3⟩ := at0 t
  funext a; apply Fin.ext
  match a with
  | ⟨0, _⟩ => show win0_0.index t (0 : Fin 4) * 4 + 1 * b.val = b.val; omega
  | ⟨1, _⟩ => show win0_0.index t (1 : Fin 4) * 5 + 1 * ch.val = ch.val; omega
  | ⟨2, _⟩ => show win0_0.index t (2 : Fin 4) * 192 + 1 * y.val = 192 * ((grid0.coords t) 1).val + y.val; omega
  | ⟨3, _⟩ => show win0_0.index t (3 : Fin 4) * 384 + 1 * l.val = l.val; omega

/-! ## The blocks -/

section
variable (t : Fin cfg0.N)

theorem iblk1_at (k : Fin 3) (l : Fin 384) (j : Fin 16) : iblk m c 1 t (ix3 k l j) = (if near (l.val / 24) k = j then 1 else 0 : EReal) := by
  show V m c main_cst (((cfg0.win 1).blk t).view.emb (ix3 k l j)) = _
  rw [emb1, V_cst]
  refine (congrArg (FloatOps.ofBits (F := Ideal) .f32) ((congrArg lit0 (show S3x384x16.rowMajor (ix3 k l j) = (⟨(k.val * 384 + l.val) * 16 + j.val, by omega⟩ : Fin 18432) from Fin.ext (Shape.rowMajor_val_three _))).trans (lit0_eq _ _ _))).trans ?_
  split
  · exact one_bits
  · exact zero_bits
theorem iblk2_at (k : Fin 3) (l : Fin 384) (j : Fin 16) : iblk m c 2 t (ix3 k j l) = (if near (l.val / 24) k = j then 1 else 0 : EReal) := by
  show V m c main_cst_0 (((cfg0.win 2).blk t).view.emb (ix3 k j l)) = _
  rw [emb2, V_cst_0]
  refine (congrArg (FloatOps.ofBits (F := Ideal) .f32) ((congrArg lit1 (show S3x16x384.rowMajor (ix3 k j l) = (⟨(k.val * 16 + j.val) * 384 + l.val, by omega⟩ : Fin 18432) from Fin.ext (Shape.rowMajor_val_three _))).trans (lit1_eq _ _ _))).trans ?_
  split
  · exact one_bits
  · exact zero_bits
theorem iblk3_at (k : Fin 3) (l : Fin 384) : @LT.lt EReal _ (iblk m c 3 t (ix3 k 0 l)) 0 ↔ ¬inside (l.val / 24) k := by
  have e : iblk m c 3 t (ix3 k 0 l) = FloatOps.ofBits (F := Ideal) .f32 (if inside (l.val / 24) k then 0#32 else 0xDA0E1BCA#32) := by
    show V m c main_cst_1 (((cfg0.win 3).blk t).view.emb (ix3 k 0 l)) = _
    rw [emb3, V_cst_1]
    refine (congrArg (FloatOps.ofBits (F := Ideal) .f32) ((congrArg lit2 (show S3x1x384.rowMajor (ix3 k 0 l) = (⟨k.val * 384 + l.val, by omega⟩ : Fin 1152) from Fin.ext ((Shape.rowMajor_val_three _).trans (by show (k.val * 1 + 0) * 384 + l.val = k.val * 384 + l.val; omega)))).trans (lit2_eq _ _))).trans ?_
    rfl
  rw [e]
  split
  · rename_i h; rw [zero_bits]; exact iff_of_false (lt_irrefl _) (not_not_intro h)
  · rename_i h; exact iff_of_true neg_bits h
theorem iblk4_at (b : Fin 4) (g : Fin 20) : iblk m c 4 t (ix2 b g) = (if g.val / 5 = b.val then 1 else 0 : EReal) := by
  show V m c main_cst_2 (((cfg0.win 4).blk t).view.emb (ix2 b g)) = _
  rw [emb4, V_cst_2]
  refine (congrArg (FloatOps.ofBits (F := Ideal) .f32) ((congrArg lit3 (show S4x20.rowMajor (ix2 b g) = (⟨b.val * 20 + g.val, by omega⟩ : Fin 80) from Fin.ext (Shape.rowMajor_val_two _))).trans (lit3_eq _ _))).trans ?_
  split
  · exact one_bits
  · exact zero_bits
theorem iblk5_at (g : Fin 20) (b : Fin 4) : @LT.lt EReal _ 0 (iblk m c 5 t (ix2 g b)) ↔ g.val / 5 = b.val := by
  have e : iblk m c 5 t (ix2 g b) = FloatOps.ofBits (F := Ideal) .f32 (if g.val / 5 = b.val then 0x3FB8AA3B#32 else 0#32) := by
    show V m c main_cst_3 (((cfg0.win 5).blk t).view.emb (ix2 g b)) = _
    rw [emb5, V_cst_3]
    refine (congrArg (FloatOps.ofBits (F := Ideal) .f32) ((congrArg lit4 (show S20x4.rowMajor (ix2 g b) = (⟨g.val * 4 + b.val, by omega⟩ : Fin 80) from Fin.ext (Shape.rowMajor_val_two _))).trans (lit4_eq _ _))).trans ?_
    rfl
  rw [e]
  split
  · rename_i h; exact iff_of_true pos_bits h
  · rename_i h; rw [zero_bits]; exact iff_of_false (lt_irrefl _) h
theorem iblk6_at (p : Fin 160) (g : Fin 20) : iblk m c 6 t (ix2 p g) = (if p.val / 8 = g.val then 1 else 0 : EReal) := by
  show V m c main_cst_4 (((cfg0.win 6).blk t).view.emb (ix2 p g)) = _
  rw [emb6, V_cst_4]
  refine (congrArg (FloatOps.ofBits (F := Ideal) .f32) ((congrArg lit5 (show S160x20.rowMajor (ix2 p g) = (⟨p.val * 20 + g.val, by omega⟩ : Fin 3200) from Fin.ext (Shape.rowMajor_val_two _))).trans (lit5_eq _ _))).trans ?_
  split
  · exact one_bits
  · exact zero_bits
theorem iblk7_at (p : Fin 32) (b : Fin 4) : iblk m c 7 t (ix2 p b) = (if p.val / 8 = b.val then 1 else 0 : EReal) := by
  show V m c main_cst_5 (((cfg0.win 7).blk t).view.emb (ix2 p b)) = _
  rw [emb7, V_cst_5]
  refine (congrArg (FloatOps.ofBits (F := Ideal) .f32) ((congrArg lit6 (show S32x4.rowMajor (ix2 p b) = (⟨p.val * 4 + b.val, by omega⟩ : Fin 128) from Fin.ext (Shape.rowMajor_val_two _))).trans (lit6_eq _ _))).trans ?_
  split
  · exact one_bits
  · exact zero_bits

/-- The pixels are the reals `X`. -/
def IsX (X : Fin 4 → Fin 5 → ℕ → ℕ → ℝ) : Prop :=
  ∀ (b : Fin 4) (ch : Fin 5) (y l : Fin 384), m ((c : Thread nD τ).loc main_arg0) (ix4 b ch y l) = ((X b ch y.val l.val : ℝ) : EReal)

theorem iblk0_at {X : Fin 4 → Fin 5 → ℕ → ℕ → ℝ} (hX : IsX m c X) (b : Fin 4) (ch : Fin 5) (y : Fin 192) (l : Fin 384) :
    iblk m c 0 t (ix4 b ch y l) = ((X b ch (192 * ((grid0.coords t) 1).val + y.val) l.val : ℝ) : EReal) := by
  show V m c main_arg0 (((cfg0.win 0).blk t).view.emb (ix4 b ch y l)) = _
  rw [emb0, V_main_arg0]
  exact hX b ch _ l
end

/-! ## What the body's loads read -/

theorem idx2 {n0 n1 : ℕ} (i j : (⟨2, ![n0, n1]⟩ : Shape).Idx) (h0 : (i 0).val = (j 0).val) (h1 : (i 1).val = (j 1).val) : i = j :=
  funext (Fin.forall_fin_two.mpr ⟨Fin.ext h0, Fin.ext h1⟩)
theorem idx3 {n0 n1 n2 : ℕ} (i j : (⟨3, ![n0, n1, n2]⟩ : Shape).Idx) (h0 : (i 0).val = (j 0).val) (h1 : (i 1).val = (j 1).val) (h2 : (i 2).val = (j 2).val) : i = j :=
  funext fun a => match a with | ⟨0, _⟩ => Fin.ext h0 | ⟨1, _⟩ => Fin.ext h1 | ⟨2, _⟩ => Fin.ext h2
theorem idx4 {n0 n1 n2 n3 : ℕ} (i j : (⟨4, ![n0, n1, n2, n3]⟩ : Shape).Idx) (h0 : (i 0).val = (j 0).val) (h1 : (i 1).val = (j 1).val) (h2 : (i 2).val = (j 2).val) (h3 : (i 3).val = (j 3).val) : i = j :=
  funext fun a => match a with | ⟨0, _⟩ => Fin.ext h0 | ⟨1, _⟩ => Fin.ext h1 | ⟨2, _⟩ => Fin.ext h2 | ⟨3, _⟩ => Fin.ext h3

section
variable (t : Fin cfg0.N)
    {M2 : Memref sig .tc .vmem S4x5x192x384 .f32} {M3 : Memref sig .tc .vmem S3x384x16 .f32} {M4 : Memref sig .tc .vmem S3x16x384 .f32}
    {M5 : Memref sig .tc .vmem S3x1x384 .f32} {M6 : Memref sig .tc .vmem S4x20 .f32} {M7 : Memref sig .tc .vmem S20x4 .f32}
    {M8 : Memref sig .tc .vmem S160x20 .f32} {M9 : Memref sig .tc .vmem S32x4 .f32} {M12 : Memref sig .tc .vmem S256x20 .f32}
    {f2 : Bf (F := Ideal) c M2} {f3 : Bf (F := Ideal) c M3} {f4 : Bf (F := Ideal) c M4} {f5 : Bf (F := Ideal) c M5} {f6 : Bf (F := Ideal) c M6} {f7 : Bf (F := Ideal) c M7}
    {f8 : Bf (F := Ideal) c M8} {f9 : Bf (F := Ideal) c M9} (f12 : Bf (F := Ideal) c M12)
    (e2 : M2.view.read (Elt Ideal) f2 = iblk m c 0 t) (e3 : M3.view.read (Elt Ideal) f3 = iblk m c 1 t) (e4 : M4.view.read (Elt Ideal) f4 = iblk m c 2 t)
    (e5 : M5.view.read (Elt Ideal) f5 = iblk m c 3 t) (e6 : M6.view.read (Elt Ideal) f6 = iblk m c 4 t) (e7 : M7.view.read (Elt Ideal) f7 = iblk m c 5 t)
    (e8 : M8.view.read (Elt Ideal) f8 = iblk m c 6 t) (e9 : M9.view.read (Elt Ideal) f9 = iblk m c 7 t)

include e2 e3 e4 e5 e6 e7 e8 e9 in
theorem good {X : Fin 4 → Fin 5 → ℕ → ℕ → ℝ} (hX : IsX m c X) (S : Fin 10 → Vec Ideal S16x20 .f32) :
    Good (ins c M2 M3 M4 M5 M6 M7 M8 M9 f2 f3 f4 f5 f6 f7 f8 f9 S) ((grid0.coords t) 1).val X where
  x b ch y l := by
    refine Eq.trans ?_ (iblk0_at m c t hX b ch y l)
    rw [← e2]
    exact congrArg (M2.view.read (Elt Ideal) f2) (idx4 _ _ (by show 0 + 1 * _ = _; simp) (by show 0 + 1 * _ = _; simp) (by show 0 + 1 * _ = _; simp) (by show 0 + 1 * _ = _; simp))
  e k l j := by
    refine Eq.trans ?_ (iblk1_at m c t k l j)
    rw [← e3]
    exact congrArg (M3.view.read (Elt Ideal) f3) (idx3 _ _ (by show k.val + 1 * 0 = _; rfl) (by show 0 + 1 * _ = _; simp) (by show 0 + 1 * _ = _; simp))
  g k l j := by
    refine Eq.trans ?_ (iblk2_at m c t k l j)
    rw [← e4]
    exact congrArg (M4.view.read (Elt Ideal) f4) (idx3 _ _ (by show k.val + 1 * 0 = _; rfl) (by show 0 + 1 * _ = _; simp) (by show 0 + 1 * _ = _; simp))
  c k l := by
    refine Iff.trans (Eq.to_iff ?_) (iblk3_at m c t k l)
    rw [← e5]
    exact congrArg (fun z => @LT.lt EReal _ (M5.view.read (Elt Ideal) f5 z) 0) (idx3 _ _ (by show k.val + 1 * 0 = _; rfl) (by show 0 + 1 * _ = _; simp) (by show 0 + 1 * _ = _; simp))
  r b g := by
    refine Eq.trans ?_ (iblk4_at m c t b g)
    rw [← e6]
    exact congrArg (M6.view.read (Elt Ideal) f6) (idx2 _ _ (by show 0 + 1 * _ = _; simp) (by show 0 + 1 * _ = _; simp))
  r2 g b := by
    refine Iff.trans (Eq.to_iff ?_) (iblk5_at m c t g b)
    rw [← e7]
    exact congrArg (fun z => @LT.lt EReal _ 0 (M7.view.read (Elt Ideal) f7 z)) (idx2 _ _ (by show 0 + 1 * _ = _; simp) (by show 0 + 1 * _ = _; simp))
  gn p g := by
    refine Eq.trans ?_ (iblk6_at m c t p g)
    rw [← e8]
    exact congrArg (M8.view.read (Elt Ideal) f8) (idx2 _ _ (by show 0 + 1 * _ = _; simp) (by show 0 + 1 * _ = _; simp))
  gd p b := by
    refine Eq.trans ?_ (iblk7_at m c t p b)
    rw [← e9]
    exact congrArg (M9.view.read (Elt Ideal) f9) (idx2 _ _ (by show 0 + 1 * _ = _; simp) (by show 0 + 1 * _ = _; simp))

theorem reads (i : grid0.Coords) (hc : k0_cond3 i = 1#1) (S : Fin 16 → Fin 16 → Fin 4 → Fin 5 → ℝ)
    (hS : ∀ (a : Fin 256) (g : Fin 20), M12.view.read (Elt Ideal) f12 (ix2 a g)
      = ((S ⟨a.val / 16, by omega⟩ ⟨a.val % 16, by omega⟩ ⟨g.val / 5, by omega⟩ ⟨g.val % 5, by omega⟩ : ℝ) : EReal)) :
    Reads (ins c M2 M3 M4 M5 M6 M7 M8 M9 f2 f3 f4 f5 f6 f7 f8 f9 (rows c i M12 f12 hc)) (i 1).val S := by
  intro o j g
  refine (get_at (off3_eq i o) (k0_off3_inb i hc o) f12 j g).trans ((hS _ _).trans ?_)
  congr 1
  refine congrArg₂ (fun R J => S R J _ _) (Fin.ext ?_) (Fin.ext ?_)
  · show (16 * min (8 * (i 1).val + o.val - 1) 15 + j.val) / 16 = min (8 * (i 1).val + o.val - 1) 15; omega
  · show (16 * min (8 * (i 1).val + o.val - 1) 15 + j.val) % 16 = j.val; omega
end

end Cert.KernelIdeal.Proof.Blocks

end
-- ==== Proof.Weights.lean ====
module

public import proofs.«01_k».proof.Proof.State

@[expose] public section

set_option maxRecDepth 16384

noncomputable section

/- The weights that a row block of the last iteration writes. -/
namespace Cert.KernelIdeal.Proof.Weights

open Cert.KernelIdeal Cert.KernelIdeal.Gen Cert.KernelIdeal.Proof Cert.KernelIdeal.Proof.Bridge Cert.KernelIdeal.Proof.Point Cert.KernelIdeal.Proof.Elem Cert.KernelIdeal.Proof.Model
open Idealize.ShloMosaic Idealize.ShloMosaic.Tactic Cert.Spec

variable (i : grid0.Coords) (I : Ins Ideal)

/-- The plane of neighbour `k` on the rows of sub-block `s`. -/
def piece (s : Fin 8) (k : Fin 9) : View.Piece (Elt Ideal) S4x9x192x384 .f32 :=
  ⟨Rect.unit ![0, k.val, 24 * s.val, 0] S4x1x24x384.size (inbQ s k), qp (I.nds i s) ⟨k.val / 3, by omega⟩ ⟨k.val % 3, by omega⟩⟩

theorem qL_eq : qL i I = ([7, 6, 5, 4, 3, 2, 1, 0] : List (Fin 8)).flatMap fun s => ([8, 7, 6, 5, 4, 3, 2, 1, 0] : List (Fin 9)).map (piece i I s) := rfl

theorem idx4_eq (x : S4x1x24x384.Idx) : ∃ (b : Fin 4) (y : Fin 24) (l : Fin 384), x = ix4 b 0 y l :=
  ⟨x 0, x 2, x 3, funext fun a => match a with
    | ⟨0, _⟩ => rfl
    | ⟨1, _⟩ => Fin.ext (by have h : (x 1).val < 1 := (x 1).isLt; show (x 1).val = 0; omega)
    | ⟨2, _⟩ => rfl
    | ⟨3, _⟩ => rfl⟩

/-- A row block's weights. -/
def QB (X : Fin 4 → Fin 5 → ℕ → ℕ → ℝ) (S : Fin 16 → Fin 16 → Fin 4 → Fin 5 → ℝ) (rb : ℕ) : S4x9x192x384.Idx → EReal := fun x =>
  ((Q X S (x 0) (192 * rb + (x 2).val) (x 3).val ⟨(x 1).val / 3, by have : (x 1).val < 9 := (x 1).isLt; omega⟩ ⟨(x 1).val % 3, by omega⟩ : ℝ) : EReal)

theorem Q_congr (X : Fin 4 → Fin 5 → ℕ → ℕ → ℝ) (S : Fin 16 → Fin 16 → Fin 4 → Fin 5 → ℝ) {b b' : Fin 4} {y y' l l' : ℕ} {t t' u u' : Fin 3}
    (hb : b = b') (hy : y = y') (hl : l = l') (ht : t = t') (hu : u = u') : Q X S b y l t u = Q X S b' y' l' t' u' := by subst hb hy hl ht hu; rfl

theorem weights {X : Fin 4 → Fin 5 → ℕ → ℕ → ℝ} {S : Fin 16 → Fin 16 → Fin 4 → Fin 5 → ℝ} (h : Good I (i 1).val X) (hS : Reads I (i 1).val S)
    {M : Memref sig .tc .vmem S4x9x192x384 .f32} (f : M.view.ty.Contents (Elt Ideal)) :
    M.view.read (Elt Ideal) (M.view.writes (Elt Ideal) f (qL i I)) = QB X S (i 1).val := by
  have hrb : (i 1).val < 2 := (i 1).isLt
  funext y
  refine View.read_writes_apply_of_pieces M.view f (QB X S (i 1).val) (qL i I) ?_ y ?_
  · intro p hp x
    rw [qL_eq] at hp
    obtain ⟨s, -, hp⟩ := List.mem_flatMap.mp hp
    obtain ⟨k, -, rfl⟩ := List.mem_map.mp hp
    obtain ⟨b, y, l, rfl⟩ := idx4_eq x
    refine (qp_at (I.nds i s) _ _ b y l).trans ((q_real h hS hrb i rfl s _ _ b y l).trans (congrArg _ ?_))
    exact Q_congr X S (Fin.ext (by show b.val = 0 + 1 * b.val; omega)) (by show _ = 192 * (i 1).val + (24 * s.val + 1 * y.val); omega) (by show l.val = 0 + 1 * l.val; omega)
      (Fin.ext (by show k.val / 3 = (k.val + 1 * 0) / 3; omega)) (Fin.ext (by show k.val % 3 = (k.val + 1 * 0) % 3; omega))
  · rw [qL_eq]
    have h1 : (y 1).val < 9 := (y 1).isLt
    have h2 : (y 2).val < 192 := (y 2).isLt
    refine ⟨piece i I ⟨(y 2).val / 24, by omega⟩ ⟨(y 1).val, h1⟩, List.mem_flatMap.mpr ⟨⟨(y 2).val / 24, by omega⟩, ?_, List.mem_map.mpr ⟨⟨(y 1).val, h1⟩, ?_, rfl⟩⟩, ?_⟩
    · generalize (⟨(y 2).val / 24, _⟩ : Fin 8) = s; revert s; decide
    · generalize (⟨(y 1).val, h1⟩ : Fin 9) = k; revert k; decide
    · refine (Rect.mem_set_unit (inb := inbQ ⟨(y 2).val / 24, by omega⟩ ⟨(y 1).val, h1⟩)).mpr fun a => ?_
      have h0 : (y 0).val < 4 := (y 0).isLt
      have h3 : (y 3).val < 384 := (y 3).isLt
      match a with
      | ⟨0, _⟩ => show 0 ≤ (y 0).val ∧ (y 0).val < 0 + 4; omega
      | ⟨1, _⟩ => show (y 1).val ≤ (y 1).val ∧ (y 1).val < (y 1).val + 1; omega
      | ⟨2, _⟩ => show 24 * ((y 2).val / 24) ≤ (y 2).val ∧ (y 2).val < 24 * ((y 2).val / 24) + 24; omega
      | ⟨3, _⟩ => show 0 ≤ (y 3).val ∧ (y 3).val < 0 + 384; omega

end Cert.KernelIdeal.Proof.Weights

end
-- ==== Proof.Steps.lean ====
module

public import proofs.«01_k».proof.Proof.Blocks
public import proofs.«01_k».proof.Proof.Weights

@[expose] public section

set_option maxRecDepth 16384

noncomputable section

/- One point of the grid: what the kept buffers and the result blocks hold after it. -/
namespace Cert.KernelIdeal.Proof.Steps

open Cert.KernelIdeal Cert.KernelIdeal.Gen Cert.KernelIdeal.Proof Cert.KernelIdeal.Proof.Bridge Cert.KernelIdeal.Proof.Point Cert.KernelIdeal.Proof.State Cert.KernelIdeal.Proof.Blocks Cert.KernelIdeal.Proof.Weights
open Idealize.ShloMosaic Idealize.ShloMosaic.TcCoe Idealize.ShloMosaic.Tactic Cert.Spec

/-- The small number added to each divisor. -/
def eps : ℝ := 15111573 / 2 ^ 77
theorem eps_pos : 0 < eps := by unfold eps; positivity
theorem eps_val : Ideal.ofBits .f32 0x24E69595#32 = ((eps : ℝ) : EReal) := by
  unfold eps
  simp [Ideal.ofBits, Ideal.ieee, -EReal.coe_mul]; norm_num

/-- Means by row and column of the buffer that keeps them. -/
def SP (S : Fin 16 → Fin 16 → Fin 4 → Fin 5 → ℝ) (a : Fin 256) (g : Fin 20) : ℝ :=
  S ⟨a.val / 16, by omega⟩ ⟨a.val % 16, by omega⟩ ⟨g.val / 5, by omega⟩ ⟨g.val % 5, by omega⟩

variable (X : Fin 4 → Fin 5 → ℕ → ℕ → ℝ)

/-- What the kept buffers hold before point `t`. -/
structure Inv (t : ℕ) {M12 M13 : Memref sig .tc .vmem S256x20 .f32} {M14 : Memref sig .tc .vmem S256x4 .f32}
    (f12 : M12.view.ty.Contents (Elt Ideal)) (f13 : M13.view.ty.Contents (Elt Ideal)) (f14 : M14.view.ty.Contents (Elt Ideal)) : Prop where
  n : 1 ≤ t → ∀ a g, M13.view.read (Elt Ideal) f13 (ix2 a g) = ((if t % 2 = 1 then pN' X (t / 2) (means X eps (t / 2 - 1)) 0 a g else 0 : ℝ) : EReal)
  d : 1 ≤ t → ∀ a b, M14.view.read (Elt Ideal) f14 (ix2 a b) = ((if t % 2 = 1 then pD' X (t / 2) (means X eps (t / 2 - 1)) 0 a b else 0 : ℝ) : EReal)
  s : 2 ≤ t → ∀ a g, M12.view.read (Elt Ideal) f12 (ix2 a g) = ((SP (means X eps (t / 2 - 1)) a g : ℝ) : EReal)

theorem pD_nonneg (it : ℕ) (S : Fin 16 → Fin 16 → Fin 4 → Fin 5 → ℝ) (a : Fin 256) (b : Fin 4) :
    0 ≤ pD' X it S 0 a b + pD' X it S 1 a b := by
  unfold pD'
  rw [pden_total]
  split
  · norm_num
  · exact den_nonneg ..

/-- The totals make the next means. -/
theorem means_eq (it : ℕ) (a : Fin 256) (g : Fin 20) :
    (pN' X it (means X eps (it - 1)) 0 a g + pN' X it (means X eps (it - 1)) 1 a g)
      / (if it = 0 then max (pD' X it (means X eps (it - 1)) 0 a ⟨g.val / 5, by omega⟩ + pD' X it (means X eps (it - 1)) 1 a ⟨g.val / 5, by omega⟩) 1
          else pD' X it (means X eps (it - 1)) 0 a ⟨g.val / 5, by omega⟩ + pD' X it (means X eps (it - 1)) 1 a ⟨g.val / 5, by omega⟩ + eps)
      = SP (means X eps it) a g := by
  unfold pN' pD'
  rw [pnum_total, pden_total]
  cases it with
  | zero =>
    simp only [if_true]
    rw [max_eq_left (by norm_num)]
    rfl
  | succ n =>
    simp only [if_neg (Nat.succ_ne_zero n), Nat.add_sub_cancel]
    rfl

section
variable (m : (ℓ : Loc nD τ sig) → Buf (Elt Ideal) ℓ) (c : Dev nD) (t : Fin cfg0.N)
    {M2 : Memref sig .tc .vmem S4x5x192x384 .f32} {M3 : Memref sig .tc .vmem S3x384x16 .f32} {M4 : Memref sig .tc .vmem S3x16x384 .f32}
    {M5 : Memref sig .tc .vmem S3x1x384 .f32} {M6 : Memref sig .tc .vmem S4x20 .f32} {M7 : Memref sig .tc .vmem S20x4 .f32}
    {M8 : Memref sig .tc .vmem S160x20 .f32} {M9 : Memref sig .tc .vmem S32x4 .f32}
    {M12 M13 : Memref sig .tc .vmem S256x20 .f32} {M14 : Memref sig .tc .vmem S256x4 .f32}
    {f2 : Bf (F := Ideal) c M2} {f3 : Bf (F := Ideal) c M3} {f4 : Bf (F := Ideal) c M4} {f5 : Bf (F := Ideal) c M5} {f6 : Bf (F := Ideal) c M6} {f7 : Bf (F := Ideal) c M7}
    {f8 : Bf (F := Ideal) c M8} {f9 : Bf (F := Ideal) c M9} {f12 : Bf (F := Ideal) c M12} {f13 : Bf (F := Ideal) c M13} {f14 : Bf (F := Ideal) c M14}
    (e2 : M2.view.read (Elt Ideal) f2 = iblk m c 0 t) (e3 : M3.view.read (Elt Ideal) f3 = iblk m c 1 t) (e4 : M4.view.read (Elt Ideal) f4 = iblk m c 2 t)
    (e5 : M5.view.read (Elt Ideal) f5 = iblk m c 3 t) (e6 : M6.view.read (Elt Ideal) f6 = iblk m c 4 t) (e7 : M7.view.read (Elt Ideal) f7 = iblk m c 5 t)
    (e8 : M8.view.read (Elt Ideal) f8 = iblk m c 6 t) (e9 : M9.view.read (Elt Ideal) f9 = iblk m c 7 t)
    {X} (hX : IsX m c X) (hV : Inv X t.val f12 f13 f14)
include e2 e3 e4 e5 e6 e7 e8 e9 hX hV

theorem both (hc : k0_cond3 (grid0.coords t) = 1#1) :
    Good (ins c M2 M3 M4 M5 M6 M7 M8 M9 f2 f3 f4 f5 f6 f7 f8 f9 (rows c (grid0.coords t) M12 f12 hc)) ((grid0.coords t) 1).val X
      ∧ Reads (ins c M2 M3 M4 M5 M6 M7 M8 M9 f2 f3 f4 f5 f6 f7 f8 f9 (rows c (grid0.coords t) M12 f12 hc)) ((grid0.coords t) 1).val (means X eps (t.val / 2 - 1)) := by
  have h0 := (cond3_iff _).mp hc
  rw [coord0] at h0
  exact ⟨good m c t e2 e3 e4 e5 e6 e7 e8 e9 hX _, reads c f12 (grid0.coords t) hc _ (hV.s (by omega))⟩

theorem sumsN (a : Fin 256) (g : Fin 20) :
    M13.view.read (Elt Ideal) (n3 (grid0.coords t) (ins c M2 M3 M4 M5 M6 M7 M8 M9 f2 f3 f4 f5 f6 f7 f8 f9 noRows) f13
        (fun hc => ins c M2 M3 M4 M5 M6 M7 M8 M9 f2 f3 f4 f5 f6 f7 f8 f9 (rows c (grid0.coords t) M12 f12 hc))) (ix2 a g)
      = (((if t.val % 2 = 1 then pN' X (t.val / 2) (means X eps (t.val / 2 - 1)) 0 a g else 0) + pN' X (t.val / 2) (means X eps (t.val / 2 - 1)) (t.val % 2) a g : ℝ) : EReal) := by
  have h := n3_real (grid0.coords t) (ins c M2 M3 M4 M5 M6 M7 M8 M9 f2 f3 f4 f5 f6 f7 f8 f9 noRows) f13
    (fun hc => ins c M2 M3 M4 M5 M6 M7 M8 M9 f2 f3 f4 f5 f6 f7 f8 f9 (rows c (grid0.coords t) M12 f12 hc))
    (good m c t e2 e3 e4 e5 e6 e7 e8 e9 hX _) (both m c t e2 e3 e4 e5 e6 e7 e8 e9 hX hV)
    (fun a g => if t.val % 2 = 1 then pN' X (t.val / 2) (means X eps (t.val / 2 - 1)) 0 a g else 0)
    (n1_real (grid0.coords t) f13 _ (fun h a g => if_neg (by rw [coord0, coord1] at h; omega)) (fun h => hV.n (by rw [coord0, coord1] at h; omega))) a g
  rw [coord0, coord1] at h
  exact h

theorem sumsD (a : Fin 256) (b : Fin 4) :
    M14.view.read (Elt Ideal) (d3 (grid0.coords t) (ins c M2 M3 M4 M5 M6 M7 M8 M9 f2 f3 f4 f5 f6 f7 f8 f9 noRows) f14
        (fun hc => ins c M2 M3 M4 M5 M6 M7 M8 M9 f2 f3 f4 f5 f6 f7 f8 f9 (rows c (grid0.coords t) M12 f12 hc))) (ix2 a b)
      = (((if t.val % 2 = 1 then pD' X (t.val / 2) (means X eps (t.val / 2 - 1)) 0 a b else 0) + pD' X (t.val / 2) (means X eps (t.val / 2 - 1)) (t.val % 2) a b : ℝ) : EReal) := by
  have h := d3_real (grid0.coords t) (ins c M2 M3 M4 M5 M6 M7 M8 M9 f2 f3 f4 f5 f6 f7 f8 f9 noRows) f14
    (fun hc => ins c M2 M3 M4 M5 M6 M7 M8 M9 f2 f3 f4 f5 f6 f7 f8 f9 (rows c (grid0.coords t) M12 f12 hc))
    (good m c t e2 e3 e4 e5 e6 e7 e8 e9 hX _) (both m c t e2 e3 e4 e5 e6 e7 e8 e9 hX hV)
    (fun a b => if t.val % 2 = 1 then pD' X (t.val / 2) (means X eps (t.val / 2 - 1)) 0 a b else 0)
    (d1_real (grid0.coords t) f14 _ (fun h a g => if_neg (by rw [coord0, coord1] at h; omega)) (fun h => hV.d (by rw [coord0, coord1] at h; omega))) a b
  rw [coord0, coord1] at h
  exact h

theorem newMeans (h1 : t.val % 2 = 1) (a : Fin 256) (g : Fin 20) :
    spf (grid0.coords t) (ins c M2 M3 M4 M5 M6 M7 M8 M9 f2 f3 f4 f5 f6 f7 f8 f9 noRows) f13 f14
        (fun hc => ins c M2 M3 M4 M5 M6 M7 M8 M9 f2 f3 f4 f5 f6 f7 f8 f9 (rows c (grid0.coords t) M12 f12 hc)) (ix2 a g)
      = ((SP (means X eps (t.val / 2)) a g : ℝ) : EReal) := by
  have hN := sumsN m c t e2 e3 e4 e5 e6 e7 e8 e9 hX hV
  have hD := sumsD m c t e2 e3 e4 e5 e6 e7 e8 e9 hX hV
  simp only [if_pos h1] at hN hD
  simp only [h1] at hN hD
  have h := spf_real (grid0.coords t) (ins c M2 M3 M4 M5 M6 M7 M8 M9 f2 f3 f4 f5 f6 f7 f8 f9 noRows) f13 f14
    (fun hc => ins c M2 M3 M4 M5 M6 M7 M8 M9 f2 f3 f4 f5 f6 f7 f8 f9 (rows c (grid0.coords t) M12 f12 hc))
    (good m c t e2 e3 e4 e5 e6 e7 e8 e9 hX _) _ _ hN hD eps eps_val eps_pos (fun a b => pD_nonneg X _ _ a b) a g
  rw [h, coord0, means_eq]

/-- The kept buffers after the point. -/
theorem next : Inv X (t.val + 1) (M12 := M12) (M13 := M13) (M14 := M14)
    (if _hc : k0_cond12 (grid0.coords t) = 1#1 then M12.view.writes (Elt Ideal) f12 [⟨Rect.unit (s := S256x20) ![0, 0] S256x20.size inb_S256x20_S256x20_0_0,
      shapeCast S256x20 (spf (grid0.coords t) (ins c M2 M3 M4 M5 M6 M7 M8 M9 f2 f3 f4 f5 f6 f7 f8 f9 noRows) f13 f14 (fun hc => ins c M2 M3 M4 M5 M6 M7 M8 M9 f2 f3 f4 f5 f6 f7 f8 f9 (rows c (grid0.coords t) M12 f12 hc))) shapeCasts_S256x20_S256x20⟩] else f12)
    (n4 (grid0.coords t) (ins c M2 M3 M4 M5 M6 M7 M8 M9 f2 f3 f4 f5 f6 f7 f8 f9 noRows) f13 (fun hc => ins c M2 M3 M4 M5 M6 M7 M8 M9 f2 f3 f4 f5 f6 f7 f8 f9 (rows c (grid0.coords t) M12 f12 hc)))
    (d4 (grid0.coords t) (ins c M2 M3 M4 M5 M6 M7 M8 M9 f2 f3 f4 f5 f6 f7 f8 f9 noRows) f14 (fun hc => ins c M2 M3 M4 M5 M6 M7 M8 M9 f2 f3 f4 f5 f6 f7 f8 f9 (rows c (grid0.coords t) M12 f12 hc))) where
  n _ a g := by
    rw [n4_real (grid0.coords t) _ f13 _ _ (sumsN m c t e2 e3 e4 e5 e6 e7 e8 e9 hX hV), coord1]
    rcases Nat.mod_two_eq_zero_or_one t.val with h | h
    · rw [if_neg (by omega), if_neg (by omega), if_pos (by omega), h, show (t.val + 1) / 2 = t.val / 2 by omega, zero_add]
    · rw [if_pos h, if_neg (by omega)]
  d _ a b := by
    rw [d4_real (grid0.coords t) _ f14 _ _ (sumsD m c t e2 e3 e4 e5 e6 e7 e8 e9 hX hV), coord1]
    rcases Nat.mod_two_eq_zero_or_one t.val with h | h
    · rw [if_neg (by omega), if_neg (by omega), if_pos (by omega), h, show (t.val + 1) / 2 = t.val / 2 by omega, zero_add]
    · rw [if_pos h, if_neg (by omega)]
  s h2 a g := by
    split
    · rename_i hc
      have h1 := (cond12_iff _).mp hc
      rw [coord1] at h1
      refine (put_at (n := 256) (o := 0) rfl inb_S256x20_S256x20_0_0 f12 _ [] a g).trans ?_
      rw [dif_pos (by omega)]
      refine (congrFun (shapeCast_id (s := S256x20) _ shapeCasts_S256x20_S256x20) _).trans ((newMeans m c t e2 e3 e4 e5 e6 e7 e8 e9 hX hV h1 a g).trans ?_)
      rw [show (t.val + 1) / 2 - 1 = t.val / 2 by omega]
    · rename_i hc
      have h1 : ¬t.val % 2 = 1 := fun h => hc ((cond12_iff _).mpr (by rw [coord1]; exact h))
      rw [hV.s (by omega) a g, show (t.val + 1) / 2 - 1 = t.val / 2 - 1 by omega]

/-- The means' result block after the point. -/
theorem out9 {M11 : Memref sig .tc .vmem S256x20 .f32} (f11 : Bf (F := Ideal) c M11) :
    M11.view.read (Elt Ideal) (if _hc : k0_cond12 (grid0.coords t) = 1#1 then if _hc : k0_cond13 (grid0.coords t) = 1#1 then M11.view.writes (Elt Ideal) f11 [⟨Rect.unit (s := S256x20) ![0, 0] S256x20.size inb_S256x20_S256x20_0_0,
      spf (grid0.coords t) (ins c M2 M3 M4 M5 M6 M7 M8 M9 f2 f3 f4 f5 f6 f7 f8 f9 noRows) f13 f14 (fun hc => ins c M2 M3 M4 M5 M6 M7 M8 M9 f2 f3 f4 f5 f6 f7 f8 f9 (rows c (grid0.coords t) M12 f12 hc))⟩] else f11 else f11)
      = if t.val = 11 then fun x => ((SP (means X eps 5) (x 0) (x 1) : ℝ) : EReal) else M11.view.read (Elt Ideal) f11 := by
  have e12 := cond12_iff (grid0.coords t)
  have e13 := cond13_iff (grid0.coords t)
  rw [coord1] at e12
  rw [coord0] at e13
  by_cases h : t.val = 11
  · rw [dif_pos (e12.mpr (by omega)), dif_pos (e13.mpr (by omega)), if_pos h]
    funext x
    obtain ⟨a, g, rfl⟩ : ∃ (a : Fin 256) (g : Fin 20), x = ix2 a g := ⟨x 0, x 1, idx2 _ _ rfl rfl⟩
    refine (put_at (n := 256) (o := 0) rfl inb_S256x20_S256x20_0_0 f11 _ [] a g).trans ?_
    rw [dif_pos (by omega)]
    refine (newMeans m c t e2 e3 e4 e5 e6 e7 e8 e9 hX hV (by omega) a g).trans ?_
    rw [h]
    rfl
  · rw [if_neg h]
    split
    · rename_i h1
      rw [dif_neg fun h2 => h (by have := e12.mp h1; have := e13.mp h2; omega)]
    · rfl

/-- The weights' result block after the point. -/
theorem out8 {M10 : Memref sig .tc .vmem S4x9x192x384 .f32} (f10 : Bf (F := Ideal) c M10) :
    M10.view.read (Elt Ideal) (if _hc : k0_cond12 (grid0.coords t) = 1#1 then
      if _hc : k0_cond13 (grid0.coords t) = 1#1 then
        if hc : k0_cond3 (grid0.coords t) = 1#1 then M10.view.writes (Elt Ideal) f10 (qL (grid0.coords t) ((fun hc => ins c M2 M3 M4 M5 M6 M7 M8 M9 f2 f3 f4 f5 f6 f7 f8 f9 (rows c (grid0.coords t) M12 f12 hc)) hc)) else f10
      else if _hc : k0_cond3 (grid0.coords t) = 1#1 then f10 else f10
    else
      if hc : k0_cond3 (grid0.coords t) = 1#1 then
        if _hc : k0_cond11 (grid0.coords t) = 1#1 then M10.view.writes (Elt Ideal) f10 (qL (grid0.coords t) ((fun hc => ins c M2 M3 M4 M5 M6 M7 M8 M9 f2 f3 f4 f5 f6 f7 f8 f9 (rows c (grid0.coords t) M12 f12 hc)) hc)) else f10
      else f10)
      = if t.val / 2 = 5 then QB X (means X eps 4) ((grid0.coords t) 1).val else M10.view.read (Elt Ideal) f10 := by
  have e12 := cond12_iff (grid0.coords t)
  have e13 := cond13_iff (grid0.coords t)
  have e11 := cond11_iff (grid0.coords t)
  have e3' := cond3_iff (grid0.coords t)
  rw [coord1] at e12
  rw [coord0] at e13 e11 e3'
  by_cases h : t.val / 2 = 5
  · have hc := e3'.mpr (by omega)
    have hw := fun f => weights (grid0.coords t) _ (both m c t e2 e3 e4 e5 e6 e7 e8 e9 hX hV hc).1 (both m c t e2 e3 e4 e5 e6 e7 e8 e9 hX hV hc).2 (M := M10) f
    rw [show t.val / 2 - 1 = 4 by omega] at hw
    by_cases h12 : k0_cond12 (grid0.coords t) = 1#1
    · rw [if_pos h, dif_pos h12, dif_pos (e13.mpr h), dif_pos hc]
      exact hw f10
    · rw [if_pos h, dif_neg h12, dif_pos hc, dif_pos (e11.mpr h)]
      exact hw f10
  · rw [if_neg h]
    by_cases h12 : k0_cond12 (grid0.coords t) = 1#1
    · rw [dif_pos h12, dif_neg (fun z => h (e13.mp z))]
      split <;> rfl
    · rw [dif_neg h12]
      split
      · rw [dif_neg (fun z => h (e11.mp z))]
      · rfl
end

end Cert.KernelIdeal.Proof.Steps

end
-- ==== Proof.RefStep.lean ====
/- One trip of the reference's loop gives the next means. -/
module

public import proofs.«01_k».proof.Proof.RefTrip
public import proofs.«01_k».proof.Proof.Steps

@[expose] public section

set_option maxRecDepth 16384

noncomputable section

namespace Cert.ReferenceIdeal.Proof

open Idealize.ShloMosaic Idealize.ShloMosaic.StableHlo Idealize.ShloMosaic.Tactic Idealize.SL.Sem
open Cert.ReferenceIdeal Cert.ReferenceIdeal.Gen Cert.ReferenceIdeal.Value
open Cert.Spec
open Cert.KernelIdeal.Proof.Steps (eps eps_pos eps_val)
open TcCoe

/-! ## Sums over the pixels, by superpixel -/

theorem word_eq (a b R J : Fin 16) : 16 * a.val + b.val = 16 * R.val + J.val ↔ a = R ∧ b = J := by
  constructor
  · intro h
    exact ⟨Fin.ext (by omega), Fin.ext (by omega)⟩
  · rintro ⟨rfl, rfl⟩; rfl

theorem row_of (r : Fin 16) (yy : Fin 24) : (24 * r.val + yy.val) / 24 = r.val := by omega

theorem regroup (f : Fin 3 → Fin 3 → ℕ → ℕ → ℝ) (R J : Fin 16) :
    (∑ ty : Fin 3, ∑ tx : Fin 3, ∑ y : Fin 384, ∑ x : Fin 384,
      if 16 * (near (y.val / 24) ty).val + (near (x.val / 24) tx).val = 16 * R.val + J.val then f ty tx y.val x.val else 0)
    = ∑ r : Fin 16, ∑ ty : Fin 3, if near r.val ty = R then
        ∑ yy : Fin 24, ∑ tx : Fin 3, ∑ x : Fin 384, (if near (x.val / 24) tx = J then f ty tx (24 * r.val + yy.val) x.val else 0) else 0 := by
  have h1 : ∀ ty tx : Fin 3, (∑ y : Fin 384, ∑ x : Fin 384,
      if 16 * (near (y.val / 24) ty).val + (near (x.val / 24) tx).val = 16 * R.val + J.val then f ty tx y.val x.val else 0)
      = ∑ r : Fin 16, ∑ yy : Fin 24, ∑ x : Fin 384, if near r.val ty = R ∧ near (x.val / 24) tx = J then f ty tx (24 * r.val + yy.val) x.val else 0 := by
    intro ty tx
    rw [sum_split (a := 16) (b := 24) (by norm_num)]
    refine Finset.sum_congr rfl fun r _ => Finset.sum_congr rfl fun yy _ => Finset.sum_congr rfl fun x _ => ?_
    show (if 16 * (near ((24 * r.val + yy.val) / 24) ty).val + (near (x.val / 24) tx).val = 16 * R.val + J.val then f ty tx (24 * r.val + yy.val) x.val else 0) = _
    rw [row_of]
    exact if_congr (word_eq _ _ _ _) rfl rfl
  have h2 : ∀ ty : Fin 3, (∑ tx : Fin 3, ∑ y : Fin 384, ∑ x : Fin 384,
      if 16 * (near (y.val / 24) ty).val + (near (x.val / 24) tx).val = 16 * R.val + J.val then f ty tx y.val x.val else 0)
      = ∑ r : Fin 16, if near r.val ty = R then
        ∑ yy : Fin 24, ∑ tx : Fin 3, ∑ x : Fin 384, (if near (x.val / 24) tx = J then f ty tx (24 * r.val + yy.val) x.val else 0) else 0 := by
    intro ty
    rw [Finset.sum_congr rfl fun tx _ => h1 ty tx, Finset.sum_comm]
    refine Finset.sum_congr rfl fun r _ => ?_
    rw [Finset.sum_comm]
    by_cases hr : near r.val ty = R
    · rw [if_pos hr]
      exact Finset.sum_congr rfl fun yy _ => Finset.sum_congr rfl fun tx _ => Finset.sum_congr rfl fun x _ => if_congr (and_iff_right hr) rfl rfl
    · rw [if_neg hr]
      exact Finset.sum_eq_zero fun yy _ => Finset.sum_eq_zero fun tx _ => Finset.sum_eq_zero fun x _ => if_neg fun h => hr h.1
  rw [Finset.sum_congr rfl fun ty _ => h2 ty, Finset.sum_comm]

/-! ## The updates -/

/-- The position of a neighbour of a pixel among all of them. -/
abbrev pos (ty tx : Fin 3) (y x : Fin 384) : Fin 1327104 := ⟨147456 * (nb ty tx).val + (px y x).val, by have := (nb ty tx).isLt; have := (px y x).isLt; omega⟩

theorem pos_surj (q : Fin 1327104) : ∃ ty tx y x, q = pos ty tx y x :=
  ⟨⟨q.val / 147456 / 3, by omega⟩, ⟨q.val / 147456 % 3, by omega⟩, ⟨q.val % 147456 / 384, by omega⟩, ⟨q.val % 147456 % 384, by omega⟩,
    Fin.ext (by show q.val = 147456 * (3 * (q.val / 147456 / 3) + q.val / 147456 % 3) + (384 * (q.val % 147456 / 384) + q.val % 147456 % 384); omega)⟩

/-- The superpixel each update goes to. -/
def goal (ix : IVec S9x147456 32) : IVec S1327104x1 32 := broadcastInDim S1327104x1 ![0] bcast_S1327104_S1327104x1_0 (shapeCast S1327104 ix shapeCasts_S9x147456_S1327104)
/-- The shares, and the shares times the pixels, as updates. -/
def shares (u : FVec Ideal S9x147456x4 .f32) : FVec Ideal S1327104x4 .f32 := shapeCast S1327104x4 u shapeCasts_S9x147456x4_S1327104x4
def parts (u : FVec Ideal S9x147456x4 .f32) (p : FVec Ideal S147456x4x5 .f32) : FVec Ideal S1327104x4x5 .f32 :=
  shapeCast S1327104x4x5 (mulf (broadcastInDim S9x147456x4x5 ![0, 1, 2, 3] bcast_S9x147456x4x1_S9x147456x4x5_0_1_2_3 (broadcastInDim S9x147456x4x1 ![0, 1, 2] bcast_S9x147456x4_S9x147456x4x1_0_1_2 u))
    (broadcastInDim S9x147456x4x5 ![0, 1, 2, 3] bcast_S1x147456x4x5_S9x147456x4x5_0_1_2_3 (broadcastInDim S1x147456x4x5 ![1, 2, 3] bcast_S147456x4x5_S1x147456x4x5_1_2_3 p))) shapeCasts_S9x147456x4x5_S1327104x4x5

theorem goal_at (ty tx : Fin 3) (y x : Fin 384) : goal idxMap (ix2 (pos ty tx y x) (0 : Fin 1)) = BitVec.ofNat 32 (16 * (near (y.val / 24) ty).val + (near (x.val / 24) tx).val) := by
  rw [← idxMap_at]
  unfold goal
  refine (broadcastInDim_apply _ _ _ _ (ix1 (pos ty tx y x)) (by intro a; match a with | ⟨0, _⟩ => rfl)).trans ?_
  refine shapeCast_apply _ _ _ _ ?_
  rw [Shape.rowMajor_val_two, Shape.rowMajor_val_one]
  show (nb ty tx).val * 147456 + (px y x).val = 147456 * (nb ty tx).val + (px y x).val
  omega
theorem shares_at (u : FVec Ideal S9x147456x4 .f32) (ty tx : Fin 3) (y x : Fin 384) (b : Fin 4) : shares u (ix2 (pos ty tx y x) b) = u (ix3 (nb ty tx) (px y x) b) := by
  refine shapeCast_apply _ _ _ _ ?_
  rw [Shape.rowMajor_val_three, Shape.rowMajor_val_two]
  show ((nb ty tx).val * 147456 + (px y x).val) * 4 + b.val = (147456 * (nb ty tx).val + (px y x).val) * 4 + b.val
  omega
theorem mul_at {s : Shape} (u v : FVec Ideal s .f32) (i : s.Idx) (a b : EReal) (ha : u i = a) (hb : v i = b) : mulf u v i = a * b := by
  subst ha; subst hb; rfl
theorem add_at {s : Shape} (u v : FVec Ideal s .f32) (i : s.Idx) (a b : EReal) (ha : u i = a) (hb : v i = b) : addf u v i = a + b := by
  subst ha; subst hb; rfl
theorem parts_at (u : FVec Ideal S9x147456x4 .f32) (p : FVec Ideal S147456x4x5 .f32) (ty tx : Fin 3) (y x : Fin 384) (b : Fin 4) (ch : Fin 5) :
    parts u p (ix3 (pos ty tx y x) b ch) = (u (ix3 (nb ty tx) (px y x) b) * p (ix3 (px y x) b ch) : EReal) := by
  refine (shapeCast_apply _ _ _ (ix4 (nb ty tx) (px y x) b ch) ?_).trans (mul_at _ _ _ _ _ ?_ ?_)
  · rw [Shape.rowMajor_val_four, Shape.rowMajor_val_three]
    show (((nb ty tx).val * 147456 + (px y x).val) * 4 + b.val) * 5 + ch.val = ((147456 * (nb ty tx).val + (px y x).val) * 4 + b.val) * 5 + ch.val
    omega
  · refine (broadcastInDim_apply _ _ _ _ (ix4 (nb ty tx) (px y x) b (0 : Fin 1)) (by intro a; match a with | ⟨0, _⟩ => rfl | ⟨1, _⟩ => rfl | ⟨2, _⟩ => rfl | ⟨3, _⟩ => rfl)).trans ?_
    exact broadcastInDim_apply _ _ _ _ (ix3 (nb ty tx) (px y x) b) (by intro a; match a with | ⟨0, _⟩ => rfl | ⟨1, _⟩ => rfl | ⟨2, _⟩ => rfl)
  · refine (broadcastInDim_apply _ _ _ _ (ix4 (0 : Fin 1) (px y x) b ch) (by intro a; match a with | ⟨0, _⟩ => rfl | ⟨1, _⟩ => rfl | ⟨2, _⟩ => rfl | ⟨3, _⟩ => rfl)).trans ?_
    exact broadcastInDim_apply _ _ _ _ (ix3 (px y x) b ch) (by intro a; match a with | ⟨0, _⟩ => rfl | ⟨1, _⟩ => rfl | ⟨2, _⟩ => rfl)

/-- Where each update goes, as a number. -/
def place (q : Fin 1327104) : ℕ := (goal idxMap (ix2 q (0 : Fin 1))).toNat
theorem place_pos (ty tx : Fin 3) (y x : Fin 384) : place (pos ty tx y x) = 16 * (near (y.val / 24) ty).val + (near (x.val / 24) tx).val := by
  unfold place
  rw [goal_at, BitVec.toNat_ofNat]
  omega
theorem place_lt (q : Fin 1327104) : place q < 256 := by
  obtain ⟨ty, tx, y, x, rfl⟩ := pos_surj q
  rw [place_pos]
  omega
theorem place_word (q : Fin 1327104) : goal idxMap (ix2 q (0 : Fin 1)) = BitVec.ofNat 32 (place q) := by unfold place; simp

/-! ## The next means -/

/-- The sums the next means are made of. -/
def nums (ix : IVec S9x147456 32) (u : FVec Ideal S9x147456x4 .f32) (p : FVec Ideal S147456x4x5 .f32) : FVec Ideal S256x4x5 .f32 :=
  Host.scatterAdd scatter_S256x4x5_S1327104x1_S1327104x4x5_12_0_0_1 (broadcastInDim S256x4x5 ![] bcast_S_S256x4x5 (constant S_ .f32 0x00000000#32)) (goal ix) (parts u p)
def dens (ix : IVec S9x147456 32) (u : FVec Ideal S9x147456x4 .f32) : FVec Ideal S256x4 .f32 :=
  Host.scatterAdd scatter_S256x4_S1327104x1_S1327104x4_1_0_0_1 (broadcastInDim S256x4 ![] bcast_S_S256x4 (constant S_ .f32 0x00000000#32)) (goal ix) (shares u)
def divisor (d : FVec Ideal S256x4 .f32) : FVec Ideal S256x4x5 .f32 :=
  broadcastInDim S256x4x5 ![0, 1, 2] bcast_S256x4x1_S256x4x5_0_1_2 (addf (broadcastInDim S256x4x1 ![0, 1] bcast_S256x4_S256x4x1_0_1 d) (broadcastInDim S256x4x1 ![] bcast_S_S256x4x1 (constant S_ .f32 0x24E69595#32)))

theorem next_eq (V : Valuation τ sig (Elt Ideal)) : (step_main_v70_5 V : FVec Ideal S256x4x5 .f32)
    = Host.divf (nums (V (Proc.devRef .tc main_v70_0)) (w95 V) (V (Proc.devRef .tc main_v70_1))) (divisor (dens (V (Proc.devRef .tc main_v70_0)) (w95 V))) := rfl

theorem divisor_at (d : FVec Ideal S256x4 .f32) (n : Fin 256) (b : Fin 4) (ch : Fin 5) (r : ℝ) (hr : d (ix2 n b) = ((r : ℝ) : EReal)) :
    divisor d (ix3 n b ch) = ((r + eps : ℝ) : EReal) := by
  refine (broadcastInDim_apply _ _ _ _ (ix3 n b (0 : Fin 1)) (by intro a; match a with | ⟨0, _⟩ => rfl | ⟨1, _⟩ => rfl | ⟨2, _⟩ => rfl)).trans ?_
  rw [EReal.coe_add]
  refine add_at _ _ _ _ _ ?_ ?_
  · exact (broadcastInDim_apply _ _ _ _ (ix2 n b) (by intro a; match a with | ⟨0, _⟩ => rfl | ⟨1, _⟩ => rfl)).trans hr
  · rw [broadcast_fill]
    exact eps_val

section
variable {X : Fin 4 → Fin 5 → ℕ → ℕ → ℝ} {S : Fin 16 → Fin 16 → Fin 4 → Fin 5 → ℝ} (u : FVec Ideal S9x147456x4 .f32) (p : FVec Ideal S147456x4x5 .f32)
  (hu : ∀ (ty tx : Fin 3) (y x : Fin 384) (b : Fin 4), u (ix3 (nb ty tx) (px y x) b) = ((Q X S b y.val x.val ty tx : ℝ) : EReal)) (hp : IsPix X p)
include hu

theorem dens_at (R J : Fin 16) (b : Fin 4) : dens idxMap u (ix2 (⟨16 * R.val + J.val, by omega⟩ : Fin 256) b) = ((den X S R J b : ℝ) : EReal) := by
  refine (sum2 (goal idxMap) place place_lt place_word _ _ _ _ _).trans ?_
  rw [broadcast_fill, zero_bits, zero_add, sum_all]
  have e := regroup (fun ty tx y x => Q X S b y x ty tx) R J
  unfold den cd
  rw [← e]
  simp only [← Softmax.coe_sum]
  refine Finset.sum_congr rfl fun ty _ => Finset.sum_congr rfl fun tx _ => Finset.sum_congr rfl fun y _ => Finset.sum_congr rfl fun x _ => ?_
  rw [place_pos, shares_at, hu]
  split <;> rfl

include hp
theorem nums_at (R J : Fin 16) (b : Fin 4) (ch : Fin 5) : nums idxMap u p (ix3 (⟨16 * R.val + J.val, by omega⟩ : Fin 256) b ch) = ((num X S R J b ch : ℝ) : EReal) := by
  refine (sum3 (goal idxMap) place place_lt place_word _ _ _ _ _ _).trans ?_
  rw [broadcast_fill, zero_bits, zero_add, sum_all]
  have e := regroup (fun ty tx y x => Q X S b y x ty tx * X b ch y x) R J
  unfold num cn
  rw [← e]
  simp only [← Softmax.coe_sum]
  refine Finset.sum_congr rfl fun ty _ => Finset.sum_congr rfl fun tx _ => Finset.sum_congr rfl fun y _ => Finset.sum_congr rfl fun x _ => ?_
  rw [place_pos, parts_at, hu, hp, ← EReal.coe_mul]
  split <;> rfl
end

/-- One trip takes the means to the next. -/
theorem at_step {X : Fin 4 → Fin 5 → ℕ → ℕ → ℝ} {S : Fin 16 → Fin 16 → Fin 4 → Fin 5 → ℝ} {V : Valuation τ sig (Elt Ideal)} (h : At X S V) :
    At X (step X eps S) (STEP V) where
  near := (STEP_main_v70_0 V).trans h.near
  pix := by rw [STEP_main_v70_1 V]; exact h.pix
  valid := (STEP_main_v70_2 V).trans h.valid
  means := by
    rw [STEP_main_v70_5 V]
    intro R J b ch
    have hd : 0 < den X S R J b + eps := add_pos_of_nonneg_of_pos (den_nonneg X S R J b) eps_pos
    refine (congrFun (next_eq V) _).trans ?_
    rw [div_at, h.near, nums_at _ _ (v95_at h) h.pix, divisor_at _ _ _ _ _ (dens_at _ (v95_at h) R J b), Ideal.div_coe hd.ne', ← EReal.coe_mul]
    refine congrArg Real.toEReal ?_
    unfold step
    exact mul_one_div _ _

end Cert.ReferenceIdeal.Proof

end
-- ==== Proof.IdealValue.lean ====
/- What the kernel's results hold after its run: the weights and the means over the real numbers. -/
module

public import proofs.«01_k».proof.Proof.IdealFrame
public import proofs.«01_k».proof.Proof.Steps

@[expose] public section

set_option maxRecDepth 16384

noncomputable section

namespace Cert.KernelIdeal.Proof.Value

open Cert.KernelIdeal Cert.KernelIdeal.Gen Cert.KernelIdeal.Proof Cert.KernelIdeal.Proof.Bridge Cert.KernelIdeal.Proof.Blocks Cert.KernelIdeal.Proof.Steps Cert.KernelIdeal.Proof.Weights
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Spec

local notation "𝕄" => MT nD τ sig Unit (Elt Ideal) ℕ (UR sig nD τ) ℕ

variable (m : (ℓ : Loc nD τ sig) → Buf (Elt Ideal) ℓ) (ρ : Dev nD → PrngReg) (X : Dev nD → Fin 4 → Fin 5 → ℕ → ℕ → ℝ)

/-- The weights' block of row block `rb`, and the means. -/
def Qout (c : Dev nD) (t : Fin cfg0.N) : S4x9x192x384.Idx → Elt Ideal .f32 := QB (X c) (means (X c) eps 4) ((grid0.coords t) 1).val
def Sout (c : Dev nD) : S256x20.Idx → Elt Ideal .f32 := fun x => ((SP (means (X c) eps 5) (x 0) (x 1) : ℝ) : EReal)

/-- The kept buffers before point `t`. -/
def Kept (c : Dev nD) (t : ℕ) : sProp 𝕄 :=
  iprop((∃ f12, ∃ f13, ∃ f14, ⌜Inv (X c) t (M12 := Memref.whole cc0_scratch0) (M13 := Memref.whole cc0_scratch1) (M14 := Memref.whole cc0_scratch2) f12 f13 f14⌝ ∗
    pt c (Memref.whole cc0_scratch0) f12 ∗ pt c (Memref.whole cc0_scratch1) f13 ∗ pt c (Memref.whole cc0_scratch2) f14) ∗ ∃ r, prngReg c r)

/-- The proof data on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Qout X c t
    | ⟨9, _⟩ => Sout X c
  Φ t := Kept X c t.val
  q _ := fullShare
  owed _ := 0

theorem after0 (c : Dev nD) (t : Fin cfg0.N) : (dats m X 0 c).after 0 t = iblk m c 0 t := rfl
theorem after1 (c : Dev nD) (t : Fin cfg0.N) : (dats m X 0 c).after 1 t = iblk m c 1 t := rfl
theorem after2 (c : Dev nD) (t : Fin cfg0.N) : (dats m X 0 c).after 2 t = iblk m c 2 t := rfl
theorem after3 (c : Dev nD) (t : Fin cfg0.N) : (dats m X 0 c).after 3 t = iblk m c 3 t := rfl
theorem after4 (c : Dev nD) (t : Fin cfg0.N) : (dats m X 0 c).after 4 t = iblk m c 4 t := rfl
theorem after5 (c : Dev nD) (t : Fin cfg0.N) : (dats m X 0 c).after 5 t = iblk m c 5 t := rfl
theorem after6 (c : Dev nD) (t : Fin cfg0.N) : (dats m X 0 c).after 6 t = iblk m c 6 t := rfl
theorem after7 (c : Dev nD) (t : Fin cfg0.N) : (dats m X 0 c).after 7 t = iblk m c 7 t := rfl
theorem after8 (c : Dev nD) (t : Fin cfg0.N) : (dats m X 0 c).after 8 t = Qout X c t := rfl
theorem after9 (c : Dev nD) (t : Fin cfg0.N) : (dats m X 0 c).after 9 t = Sout X c := rfl
theorem before0 (c : Dev nD) (t : Fin cfg0.N) (d) : (dats m X 0 c).before 0 t d = iblk m c 0 t :=
  before0_0_of m (dats m X 0 c) rfl (fun _ => rfl) t d
theorem before1 (c : Dev nD) (t : Fin cfg0.N) (d) : (dats m X 0 c).before 1 t d = iblk m c 1 t :=
  before0_1_of m (dats m X 0 c) rfl (fun _ => rfl) t d
theorem before2 (c : Dev nD) (t : Fin cfg0.N) (d) : (dats m X 0 c).before 2 t d = iblk m c 2 t :=
  before0_2_of m (dats m X 0 c) rfl (fun _ => rfl) t d
theorem before3 (c : Dev nD) (t : Fin cfg0.N) (d) : (dats m X 0 c).before 3 t d = iblk m c 3 t :=
  before0_3_of m (dats m X 0 c) rfl (fun _ => rfl) t d
theorem before4 (c : Dev nD) (t : Fin cfg0.N) (d) : (dats m X 0 c).before 4 t d = iblk m c 4 t :=
  before0_4_of m (dats m X 0 c) rfl (fun _ => rfl) t d
theorem before5 (c : Dev nD) (t : Fin cfg0.N) (d) : (dats m X 0 c).before 5 t d = iblk m c 5 t :=
  before0_5_of m (dats m X 0 c) rfl (fun _ => rfl) t d
theorem before6 (c : Dev nD) (t : Fin cfg0.N) (d) : (dats m X 0 c).before 6 t d = iblk m c 6 t :=
  before0_6_of m (dats m X 0 c) rfl (fun _ => rfl) t d
theorem before7 (c : Dev nD) (t : Fin cfg0.N) (d) : (dats m X 0 c).before 7 t d = iblk m c 7 t :=
  before0_7_of m (dats m X 0 c) rfl (fun _ => rfl) t d

/-- The body's run on any whole buffers: the operands are left as they were, the results and the scratch at some contents. -/
theorem sound_kernel (c : Dev nD) (t : Fin cfg0.N)
    (M2 : Memref sig .tc .vmem S4x5x192x384 .f32) (h2 : M2.IsWhole)
    (M3 : Memref sig .tc .vmem S3x384x16 .f32) (h3 : M3.IsWhole)
    (M4 : Memref sig .tc .vmem S3x16x384 .f32) (h4 : M4.IsWhole)
    (M5 : Memref sig .tc .vmem S3x1x384 .f32) (h5 : M5.IsWhole)
    (M6 : Memref sig .tc .vmem S4x20 .f32) (h6 : M6.IsWhole)
    (M7 : Memref sig .tc .vmem S20x4 .f32) (h7 : M7.IsWhole)
    (M8 : Memref sig .tc .vmem S160x20 .f32) (h8 : M8.IsWhole)
    (M9 : Memref sig .tc .vmem S32x4 .f32) (h9 : M9.IsWhole)
    (M10 : Memref sig .tc .vmem S4x9x192x384 .f32) (h10 : M10.IsWhole)
    (M11 : Memref sig .tc .vmem S256x20 .f32) (h11 : M11.IsWhole)
    (M12 : Memref sig .tc .vmem S256x20 .f32) (h12 : M12.IsWhole)
    (M13 : Memref sig .tc .vmem S256x20 .f32) (h13 : M13.IsWhole)
    (M14 : Memref sig .tc .vmem S256x4 .f32) (h14 : M14.IsWhole)
    (f12 : Bf (F := Ideal) c M12) (f13 : Bf (F := Ideal) c M13) (f14 : Bf (F := Ideal) c M14) (hX : IsX m c (X c)) (hV : Inv (X c) t.val f12 f13 f14)
    (X10 : S4x9x192x384.Idx → Elt Ideal .f32) (X11 : S256x20.Idx → Elt Ideal .f32) (E : Set ℕ) (R : PUnit → sProp 𝕄) :
    iprop(owns (c : Thread nD τ) M2 fullShare (iblk m c 0 t) ∗ owns (c : Thread nD τ) M3 fullShare (iblk m c 1 t) ∗ owns (c : Thread nD τ) M4 fullShare (iblk m c 2 t) ∗ owns (c : Thread nD τ) M5 fullShare (iblk m c 3 t) ∗ owns (c : Thread nD τ) M6 fullShare (iblk m c 4 t) ∗ owns (c : Thread nD τ) M7 fullShare (iblk m c 5 t) ∗ owns (c : Thread nD τ) M8 fullShare (iblk m c 6 t) ∗ owns (c : Thread nD τ) M9 fullShare (iblk m c 7 t) ∗ owns (c : Thread nD τ) M10 fullShare X10 ∗ owns (c : Thread nD τ) M11 fullShare X11 ∗ pt c M12 f12 ∗ pt c M13 f13 ∗ pt c M14 f14 ∗ (iprop(owns (c : Thread nD τ) M2 fullShare (iblk m c 0 t) ∗ owns (c : Thread nD τ) M3 fullShare (iblk m c 1 t) ∗ owns (c : Thread nD τ) M4 fullShare (iblk m c 2 t) ∗ owns (c : Thread nD τ) M5 fullShare (iblk m c 3 t) ∗ owns (c : Thread nD τ) M6 fullShare (iblk m c 4 t) ∗ owns (c : Thread nD τ) M7 fullShare (iblk m c 5 t) ∗ owns (c : Thread nD τ) M8 fullShare (iblk m c 6 t) ∗ owns (c : Thread nD τ) M9 fullShare (iblk m c 7 t) ∗ owns (c : Thread nD τ) M10 fullShare (if t.val / 2 = 5 then Qout X c t else X10) ∗ owns (c : Thread nD τ) M11 fullShare (if t.val = 11 then Sout X c else X11) ∗ (∃ g12, ∃ g13, ∃ g14, ⌜Inv (X c) (t.val + 1) (M12 := M12) (M13 := M13) (M14 := M14) g12 g13 g14⌝ ∗ pt c M12 g12 ∗ pt c M13 g13 ∗ pt c M14 g14)) -∗ R ⟨⟩))
      ⊢ wp Idealize.ShloMosaic.frame (wpE (defs₀ (F := Ideal)) Variants.none c none) E (cc0__ssn_body (grid0.coords t) M2 h2 M3 h3 M4 h4 M5 h5 M6 h6 M7 h7 M8 h8 M9 h9 M10 h10 M11 h11 M12 h12 M13 h13 M14 h14) R := by
  simp only [owns_pt c _ h2, owns_pt c _ h3, owns_pt c _ h4, owns_pt c _ h5, owns_pt c _ h6, owns_pt c _ h7, owns_pt c _ h8, owns_pt c _ h9, owns_pt c _ h10, owns_pt c _ h11]
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, H12, H13, H14, Hk⟩
  iapply ((bodyRun c (grid0.coords t) M2 h2 M3 h3 M4 h4 M5 h5 M6 h6 M7 h7 M8 h8 M9 h9 M10 h10 M11 h11 M12 h12 M13 h13 M14 h14 f2 f3 f4 f5 f6 f7 f8 f9 f10 f11 f12 f13 f14).2 E R)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H2, H3, H4, H5, H6, H7, H8, H9, H10, H11, H12, H13, H14⟩
  iapply Hk
  isplitl [H2]; · iexists f2; isplitr; (· ipureintro; exact hf2); iexact H2
  isplitl [H3]; · iexists f3; isplitr; (· ipureintro; exact hf3); iexact H3
  isplitl [H4]; · iexists f4; isplitr; (· ipureintro; exact hf4); iexact H4
  isplitl [H5]; · iexists f5; isplitr; (· ipureintro; exact hf5); iexact H5
  isplitl [H6]; · iexists f6; isplitr; (· ipureintro; exact hf6); iexact H6
  isplitl [H7]; · iexists f7; isplitr; (· ipureintro; exact hf7); iexact H7
  isplitl [H8]; · iexists f8; isplitr; (· ipureintro; exact hf8); iexact H8
  isplitl [H9]; · iexists f9; isplitr; (· ipureintro; exact hf9); iexact H9
  isplitl [H10]
  · iexists _
    isplitr; swap; (· iexact H10)
    ipureintro
    rw [W10 c (grid0.coords t) M2 h2 M3 h3 M4 h4 M5 h5 M6 h6 M7 h7 M8 h8 M9 h9 M10 h10 M11 h11 M12 h12 M13 h13 M14 h14 f2 f3 f4 f5 f6 f7 f8 f9 f10 f11 f12 f13 f14, ← hf10]
    exact out8 m c t hf2 hf3 hf4 hf5 hf6 hf7 hf8 hf9 hX hV f10
  isplitl [H11]
  · iexists _
    isplitr; swap; (· iexact H11)
    ipureintro
    rw [W11 c (grid0.coords t) M2 h2 M3 h3 M4 h4 M5 h5 M6 h6 M7 h7 M8 h8 M9 h9 M10 h10 M11 h11 M12 h12 M13 h13 M14 h14 f2 f3 f4 f5 f6 f7 f8 f9 f10 f11 f12 f13 f14, ← hf11]
    exact out9 m c t hf2 hf3 hf4 hf5 hf6 hf7 hf8 hf9 hX hV f11
  iexists _; iexists _; iexists _
  isplitr; swap
  · isplitl [H12]; · iexact H12
    isplitl [H13]; · iexact H13
    iexact H14
  ipureintro
  rw [W12 c (grid0.coords t) M2 h2 M3 h3 M4 h4 M5 h5 M6 h6 M7 h7 M8 h8 M9 h9 M10 h10 M11 h11 M12 h12 M13 h13 M14 h14 f2 f3 f4 f5 f6 f7 f8 f9 f10 f11 f12 f13 f14, W13 c (grid0.coords t) M2 h2 M3 h3 M4 h4 M5 h5 M6 h6 M7 h7 M8 h8 M9 h9 M10 h10 M11 h11 M12 h12 M13 h13 M14 h14 f2 f3 f4 f5 f6 f7 f8 f9 f10 f11 f12 f13 f14, W14 c (grid0.coords t) M2 h2 M3 h3 M4 h4 M5 h5 M6 h6 M7 h7 M8 h8 M9 h9 M10 h10 M11 h11 M12 h12 M13 h13 M14 h14 f2 f3 f4 f5 f6 f7 f8 f9 f10 f11 f12 f13 f14]
  exact next m c t hf2 hf3 hf4 hf5 hf6 hf7 hf8 hf9 hX hV

/-- A result block after a point: as the body left it, unless the point is idle for it. -/
def left (b f : Bool) (A B : sProp 𝕄) : sProp 𝕄 := match b with | true => (match f with | false => A | true => B) | false => B

theorem left_of {b f : Bool} {p : Prop} [Decidable p] (hb : b = !decide p) (hf : f = decide p) (A B : sProp 𝕄) : left b f A B = if p then B else A := by
  subst hb hf
  by_cases h : p <;> simp [left, h]

theorem idle8 : ∀ t : Fin cfg0.N, cfg0.idle 8 (cfg0.grid.coords t) = !decide (t.val / 2 = 5) := (by decide +kernel : ∀ t : Fin grid0.N, _)
theorem idle9 : ∀ t : Fin cfg0.N, cfg0.idle 9 (cfg0.grid.coords t) = !decide (t.val = 11) := (by decide +kernel : ∀ t : Fin grid0.N, _)
theorem flush8 : ∀ t : Fin cfg0.N, (cfg0.win 8).flush t = decide (t.val / 2 = 5) := (by decide +kernel : ∀ t : Fin grid0.N, _)
theorem flush9 : ∀ t : Fin cfg0.N, (cfg0.win 9).flush t = decide (t.val = 11) := (by decide +kernel : ∀ t : Fin grid0.N, _)

def bodyPre (c : Dev nD) (t : Fin cfg0.N) : sProp 𝕄 :=
  iprop((dats m X 0 c).Φ t.castSucc ∗ (dats m X 0 c).owesAt () t.castSucc
    ∗ (∃ d, owns (c : Thread nD τ) (st0_0 t) fullShare ((dats m X 0 c).before 0 t d)) ∗ (∃ d, owns (c : Thread nD τ) (st0_1 t) fullShare ((dats m X 0 c).before 1 t d)) ∗ (∃ d, owns (c : Thread nD τ) (st0_2 t) fullShare ((dats m X 0 c).before 2 t d)) ∗ (∃ d, owns (c : Thread nD τ) (st0_3 t) fullShare ((dats m X 0 c).before 3 t d)) ∗ (∃ d, owns (c : Thread nD τ) (st0_4 t) fullShare ((dats m X 0 c).before 4 t d)) ∗ (∃ d, owns (c : Thread nD τ) (st0_5 t) fullShare ((dats m X 0 c).before 5 t d)) ∗ (∃ d, owns (c : Thread nD τ) (st0_6 t) fullShare ((dats m X 0 c).before 6 t d)) ∗ (∃ d, owns (c : Thread nD τ) (st0_7 t) fullShare ((dats m X 0 c).before 7 t d)) ∗ (∃ d, owns (c : Thread nD τ) (st0_8 t) fullShare ((dats m X 0 c).before 8 t d)) ∗ (∃ d, owns (c : Thread nD τ) (st0_9 t) fullShare ((dats m X 0 c).before 9 t d)))

def bodyPost (c : Dev nD) (t : Fin cfg0.N) : sProp 𝕄 :=
  iprop((dats m X 0 c).Φ t.succ ∗ (dats m X 0 c).owesAt () t.succ
    ∗ owns (c : Thread nD τ) (st0_0 t) fullShare ((dats m X 0 c).after 0 t) ∗ owns (c : Thread nD τ) (st0_1 t) fullShare ((dats m X 0 c).after 1 t) ∗ owns (c : Thread nD τ) (st0_2 t) fullShare ((dats m X 0 c).after 2 t) ∗ owns (c : Thread nD τ) (st0_3 t) fullShare ((dats m X 0 c).after 3 t) ∗ owns (c : Thread nD τ) (st0_4 t) fullShare ((dats m X 0 c).after 4 t) ∗ owns (c : Thread nD τ) (st0_5 t) fullShare ((dats m X 0 c).after 5 t) ∗ owns (c : Thread nD τ) (st0_6 t) fullShare ((dats m X 0 c).after 6 t) ∗ owns (c : Thread nD τ) (st0_7 t) fullShare ((dats m X 0 c).after 7 t) ∗ left (cfg0.idle 8 (cfg0.grid.coords t)) ((cfg0.win 8).flush t) iprop(∃ d, owns (c : Thread nD τ) (st0_8 t) fullShare ((dats m X 0 c).before 8 t d)) (owns (c : Thread nD τ) (st0_8 t) fullShare ((dats m X 0 c).after 8 t)) ∗ left (cfg0.idle 9 (cfg0.grid.coords t)) ((cfg0.win 9).flush t) iprop(∃ d, owns (c : Thread nD τ) (st0_9 t) fullShare ((dats m X 0 c).before 9 t d)) (owns (c : Thread nD τ) (st0_9 t) fullShare ((dats m X 0 c).after 9 t)))

/-- A block held at either contents. -/
theorem owns_left (c : Dev nD) {S : Shape} (M : Memref sig .tc .vmem S .f32) (p : Prop) [Decidable p] (Y : S.Idx → Elt Ideal .f32) {D : Type} (B : D → S.Idx → Elt Ideal .f32) (d : D) :
    (owns (c : Thread nD τ) M fullShare (if p then Y else B d) : sProp 𝕄) ⊢ if p then owns (c : Thread nD τ) M fullShare Y else iprop(∃ d, owns (c : Thread nD τ) M fullShare (B d)) := by
  by_cases h : p
  · rw [if_pos h, if_pos h]
  · rw [if_neg h, if_neg h]
    iintro H
    iexists d
    iexact H

variable (hX : ∀ c, IsX m c (X c))
include hX

theorem sound_body (c : Dev nD) (t : Fin cfg0.N) :
    bodyPre m X c t ⊢ wp Idealize.ShloMosaic.frame (wpE (defs₀ (F := Ideal)) Variants.none c none) Set.univ (bodyAt0 t) (fun _ => bodyPost m X c t) := by
  unfold bodyPre bodyPost bodyAt0
  simp only [before0, before1, before2, before3, before4, before5, before6, before7]
  rw [show (dats m X 0 c).Φ t.castSucc = Kept X c t.val from rfl, show (dats m X 0 c).Φ t.succ = Kept X c (t.val + 1) from rfl,
    show (dats m X 0 c).owesAt () t.succ = (dats m X 0 c).owesAt () t.castSucc from rfl,
    after0, after1, after2, after3, after4, after5, after6, after7, after8, after9, left_of (idle8 t) (flush8 t), left_of (idle9 t) (flush9 t)]
  unfold Kept
  iintro ⟨⟨⟨%f12, %f13, %f14, %hV, G0, G1, G2⟩, Hg⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel m X c t _ _ _ _ _ _ _ _ _ _ _ _ _ _ _ _ _ _ _ _ _ _ _ _ _ _ f12 f13 f14 (hX c) hV ((dats m X 0 c).before 8 t d8) ((dats m X 0 c).before 9 t d9) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [G0]; · iexact G0
  isplitl [G1]; · iexact G1
  isplitl [G2]; · iexact G2
  iintro ⟨H0, H1, H2, H3, H4, H5, H6, H7, H8, H9, G⟩
  isplitl [G Hg]
  · isplitr [Hg]
    · iexact G
    · iexact Hg
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iapply (owns_left c (st0_8 t) (t.val / 2 = 5) (Qout X c t) (fun d => (dats m X 0 c).before 8 t d) d8)
    iexact H8
  iapply (owns_left c (st0_9 t) (t.val = 11) (Sout X c) (fun d => (dats m X 0 c).before 9 t d) d9)
  iexact H9

theorem body_obligation (c : Dev nD) : BodyObligationLoose (dats m X 0 c) (defs₀ (F := Ideal)) Variants.none () Set.univ := fun t => by
  rw [Gen.bigSep_W0, Gen.bigSep_W0, defs₀_row]
  exact triple_restated (sound_body m X hX c t) rfl .rfl fun _ => .rfl

theorem run : θ_run defs (onTc (τ := τ) (main (F := Ideal))) ⟨m, fun _ => 0, ρ⟩
    (Pipeline.FramePost cfgs (dats m X) 0 (Pipeline.afterTail₀ cfgs (dats m X) 0 (V0 m) [hostOps1])) :=
  Pipeline.θ_run_frame_around_track cfgs (dats m X) (0 : Fin 1) launch0 defs₀ Variants.none m ρ main
    (hbody := body_obligation m X hX) (hshare := fun c => (dats m X 0 c).share_full fun _ => rfl) (howed := fun _ _ => rfl)
    (V₀ := V0 m) (opss := [hostOps1]) (hsub := sfx_sub) (hfresh := sfx_fresh) (hkeep := sfx_keeps)
    (hmain := hmain m Variants.none) (hA := fun _ _ => rfl)
    (hin := fun c => by
      rw [show (dats m X 0 c).Φ 0 = Kept X c 0 from rfl, show Pipeline.ΦA (cfgs 0).spec c = _ from Φ_pts c]
      unfold Kept
      iintro ⟨⟨⟨%f12, G0⟩, ⟨%f13, G1⟩, ⟨%f14, G2⟩⟩, Hg⟩
      isplitr [Hg]
      · iexists f12; iexists f13; iexists f14
        isplitr
        · ipureintro
          exact ⟨fun h => absurd h (by decide), fun h => absurd h (by decide), fun h => absurd h (by decide)⟩
        isplitl [G0]; · iexact G0
        isplitl [G1]; · iexact G1
        iexact G2
      · iexact Hg)
    (hout := fun c => by
      rw [show (dats m X 0 c).Φ (Fin.last (cfgs 0).N) = Kept X c 12 from rfl, show Pipeline.ΦA (cfgs 0).spec c = _ from Φ_pts c]
      unfold Kept
      iintro ⟨⟨%f12, %f13, %f14, -, G0, G1, G2⟩, Hg⟩
      isplitr [Hg]
      · isplitl [G0]; · iexists f12; iexact G0
        isplitl [G1]; · iexists f13; iexact G1
        iexists f14; iexact G2
      · iexact Hg)

/-! ## The result arrays -/

omit hX

/-- The weights and the means of `x`, over the real numbers. -/
def weightsAt (x : Fin 4 → Fin 5 → ℕ → ℕ → ℝ) (S : Fin 16 → Fin 16 → Fin 4 → Fin 5 → ℝ) : S4x9x384x384.Idx → Elt Ideal .f32 := fun j =>
  ((Q x S (j 0) (j 2).val (j 3).val ⟨(j 1).val / 3, by have := (j 1).isLt; change _ < 9 at this; omega⟩ ⟨(j 1).val % 3, by omega⟩ : ℝ) : EReal)
def weightsOf (x : Fin 4 → Fin 5 → ℕ → ℕ → ℝ) : S4x9x384x384.Idx → Elt Ideal .f32 := weightsAt x (means x eps 4)
def meansOf (x : Fin 4 → Fin 5 → ℕ → ℕ → ℝ) : S4x5x256.Idx → Elt Ideal .f32 := fun j =>
  ((means x eps 5 ⟨(j 2).val / 16, by have := (j 2).isLt; change _ < 256 at this; omega⟩ ⟨(j 2).val % 16, by omega⟩ (j 0) (j 1) : ℝ) : EReal)

theorem at8 : ∀ t : Fin cfg0.N, t.val / 2 = 5 → win0_8.index t (0 : Fin 4) = 0 ∧ win0_8.index t (1 : Fin 4) = 0 ∧ win0_8.index t (2 : Fin 4) = t.val % 2 ∧ win0_8.index t (3 : Fin 4) = 0 :=
  (by decide +kernel : ∀ t : Fin grid0.N, _)
theorem at9 : ∀ t : Fin cfg0.N, win0_9.index t (0 : Fin 2) = 0 ∧ win0_9.index t (1 : Fin 2) = 0 :=
  (by decide +kernel : ∀ t : Fin grid0.N, _)

theorem emb8 (t : Fin cfg0.N) (h : t.val / 2 = 5) (j : S4x9x192x384.Idx) :
    ((cfg0.win 8).blk t).view.emb j = (ix4 (j 0) (j 1) ⟨192 * (t.val % 2) + (j 2).val, by have := (j 2).isLt; change _ < 192 at this; omega⟩ (j 3) : S4x9x384x384.Idx) := by
  obtain ⟨e0, e1, e2, e3⟩ := at8 t h
  funext a; apply Fin.ext
  match a with
  | ⟨0, _⟩ => show win0_8.index t (0 : Fin 4) * 4 + 1 * (j 0).val = (j 0).val; omega
  | ⟨1, _⟩ => show win0_8.index t (1 : Fin 4) * 9 + 1 * (j 1).val = (j 1).val; omega
  | ⟨2, _⟩ => show win0_8.index t (2 : Fin 4) * 192 + 1 * (j 2).val = 192 * (t.val % 2) + (j 2).val; omega
  | ⟨3, _⟩ => show win0_8.index t (3 : Fin 4) * 384 + 1 * (j 3).val = (j 3).val; omega

theorem emb9 (t : Fin cfg0.N) (j : S256x20.Idx) : ((cfg0.win 9).blk t).view.emb j = j := by
  obtain ⟨e0, e1⟩ := at9 t
  funext a; apply Fin.ext
  match a with
  | ⟨0, _⟩ => show win0_9.index t (0 : Fin 2) * 256 + 1 * (j 0).val = (j 0).val; omega
  | ⟨1, _⟩ => show win0_9.index t (1 : Fin 2) * 20 + 1 * (j 1).val = (j 1).val; omega

theorem weights_part (x : Fin 4 → Fin 5 → ℕ → ℕ → ℝ) (S : Fin 16 → Fin 16 → Fin 4 → Fin 5 → ℝ) (r : ℕ) (hr : r < 2) (j : S4x9x192x384.Idx) :
    weightsAt x S (ix4 (j 0) (j 1) ⟨192 * r + (j 2).val, by have := (j 2).isLt; change _ < 192 at this; omega⟩ (j 3) : S4x9x384x384.Idx) = QB x S r j := rfl

theorem flushed8 (c : Dev nD) (t : Fin cfg0.N) (h : t.val / 2 = 5) :
    (dats m X 0 c).flushed 8 t = ((cfg0.win 8).blk t).view.read (Elt Ideal) (weightsOf (X c)) := by
  funext j
  refine Eq.trans ?_ (congrArg (weightsOf (X c)) (emb8 t h j)).symm
  refine Eq.trans ?_ (weights_part (X c) (means (X c) eps 4) (t.val % 2) (by omega) j).symm
  refine Eq.trans (b := Qout X c t j) rfl ?_
  unfold Qout
  rw [coord1]

theorem covered8 (i : S4x9x384x384.Idx) : ∃ t : Fin cfg0.N, (cfg0.win 8).flush t = true ∧ i ∈ ((cfg0.win 8).blk t).view.set := by
  have hy : (i 2).val < 384 := (i 2).isLt
  obtain ⟨t, ht⟩ : ∃ t : Fin cfg0.N, t.val = 10 + (i 2).val / 192 := ⟨⟨10 + (i 2).val / 192, by show _ < 12; omega⟩, rfl⟩
  refine ⟨t, by rw [flush8]; exact decide_eq_true (by omega), ?_⟩
  have h := ((cfg0.win 8).blk t).view.emb_mem_set (ix4 (i 0) (i 1) ⟨(i 2).val % 192, by omega⟩ (i 3) : S4x9x192x384.Idx)
  rw [emb8 t (by omega)] at h
  have e : (ix4 (i 0) (i 1) ⟨192 * (t.val % 2) + (i 2).val % 192, by omega⟩ (i 3) : S4x9x384x384.Idx) = i :=
    idx4 _ _ rfl rfl (by show 192 * (t.val % 2) + (i 2).val % 192 = (i 2).val; omega) rfl
  exact e ▸ h

theorem final8 (c : Dev nD) : (dats m X 0 c).arrAt 8 cfg0.N = weightsOf (X c) :=
  (dats m X 0 c).arrAt_eq_of_cover 8 (weightsOf (X c)) (fun t ht => flushed8 m X c t (of_decide_eq_true ((flush8 t).symm.trans ht))) covered8

theorem final9 (c : Dev nD) : (dats m X 0 c).arrAt 9 cfg0.N = Sout X c :=
  (dats m X 0 c).arrAt_eq_of_cover 9 (Sout X c)
    (fun t _ => by
      funext j
      show Sout X c j = Sout X c (((cfg0.win 9).blk t).view.emb j)
      rw [emb9])
    (fun i => ⟨⟨11, by decide⟩, by rw [flush9]; rfl, by
      have h := ((cfg0.win 9).blk (⟨11, by decide⟩ : Fin cfg0.N)).view.emb_mem_set i; rwa [emb9] at h⟩)

/-- The means, transposed and split into batch and channel. -/
theorem tail2 (V : Valuation τ sig (Elt Ideal)) (c : Dev nD) (hV : V (Proc.devRef .tc main_v0_1) = Sout X c) :
    StableHlo.after (hostOps1 (F := Ideal)) V (Proc.devRef .tc main_v2) = meansOf (X c) := by
  have e : StableHlo.after (hostOps1 (F := Ideal)) V (Proc.devRef .tc main_v2)
      = shapeCast S4x5x256 (transpose S20x256 [1, 0] (V (Proc.devRef .tc main_v0_1)) transposes_S256x20_S20x256_1_0) shapeCasts_S20x256_S4x5x256 := by
    after_results
    rfl
  rw [e, hV]
  funext j
  have hb : (j 0).val < 4 := (j 0).isLt
  have hc : (j 1).val < 5 := (j 1).isLt
  have hn : (j 2).val < 256 := (j 2).isLt
  refine (shapeCast_apply _ _ j (ix2 ⟨(j 0).val * 5 + (j 1).val, by omega⟩ (j 2) : S20x256.Idx) (by
    rw [Shape.rowMajor_val_two, Shape.rowMajor_val_three]
    rfl)).trans ?_
  refine (transpose_apply _ _ _ _ (ix2 (j 2) ⟨(j 0).val * 5 + (j 1).val, by omega⟩ : S256x20.Idx) (by
    intro b
    match b with
    | ⟨0, _⟩ => rfl
    | ⟨1, _⟩ => rfl)).trans ?_
  have q1 : (⟨((j 0).val * 5 + (j 1).val) / 5, by omega⟩ : Fin 4) = j 0 := Fin.ext (by show ((j 0).val * 5 + (j 1).val) / 5 = (j 0).val; omega)
  have q2 : (⟨((j 0).val * 5 + (j 1).val) % 5, by omega⟩ : Fin 5) = j 1 := Fin.ext (by show ((j 0).val * 5 + (j 1).val) % 5 = (j 1).val; omega)
  show ((means (X c) eps 5 ⟨(j 2).val / 16, by omega⟩ ⟨(j 2).val % 16, by omega⟩ (⟨((j 0).val * 5 + (j 1).val) / 5, by omega⟩ : Fin 4) (⟨((j 0).val * 5 + (j 1).val) % 5, by omega⟩ : Fin 5) : ℝ) : EReal) = _
  rw [q1, q2]
  rfl

include hX in
/-- What the kernel leaves. -/
theorem result : θ_run defs (onTc (τ := τ) (main (F := Ideal))) ⟨m, fun _ => 0, ρ⟩ (fun r => ∀ c : Dev nD,
    r.2.mem ((c.tc : Thread nD τ).loc main_v0_0) = weightsOf (X c)
    ∧ r.2.mem ((c.tc : Thread nD τ).loc main_arg0) = m ((c.tc : Thread nD τ).loc main_arg0)
    ∧ r.2.mem ((c.tc : Thread nD τ).loc main_v2) = meansOf (X c)) :=
  (θ_run defs _ _).mono (fun r h c => ⟨((h c).1 8).trans (final8 m X c),
    ((h c).1 0).trans (((dats m X 0 c).arrAt_in 0 rfl _).trans (V_main_arg0 m c)),
    ((h c).2 main_v2 (by decide)).trans (tail2 X _ c ((Pipeline.withArrays_arr spec0 launch0.win.arr_inj c _ _ 9).trans (final9 m X c)))⟩) (run m ρ X hX)

end Cert.KernelIdeal.Proof.Value

end
-- ==== Proof.RefValue.lean ====
/- The reference's results, over the real numbers. -/
module

public import proofs.«01_k».proof.Proof.RefStep
public import proofs.«01_k».proof.Proof.IdealValue

@[expose] public section

set_option maxRecDepth 16384

noncomputable section

namespace Cert.ReferenceIdeal.Proof

open Idealize.ShloMosaic Idealize.ShloMosaic.StableHlo Idealize.ShloMosaic.Tactic Idealize.SL.Sem
open Cert.ReferenceIdeal Cert.ReferenceIdeal.Gen Cert.ReferenceIdeal.Value
open Cert.Spec
open Cert.KernelIdeal.Proof.Steps (eps eps_pos eps_val)
open Cert.KernelIdeal.Proof.Value (weightsOf meansOf)
open TcCoe

/-! ## The first means -/

theorem near_self (r : Fin 16) : near r.val 1 = r := Fin.ext (by show min (r.val + 1 - 1) 15 = r.val; omega)

/-- A sum over the pixels of one superpixel. -/
theorem regroup_own (f : ℕ → ℕ → ℝ) (R J : Fin 16) :
    (∑ y : Fin 384, ∑ x : Fin 384, if 16 * (near (y.val / 24) 1).val + (near (x.val / 24) 1).val = 16 * R.val + J.val then f y.val x.val else 0)
    = ∑ yy : Fin 24, ∑ x : Fin 384, if near (x.val / 24) 1 = J then f (24 * R.val + yy.val) x.val else 0 := by
  rw [sum_split (a := 16) (b := 24) (by norm_num)]
  have e : ∀ (r : Fin 16) (yy : Fin 24) (x : Fin 384),
      (if 16 * (near ((24 * r.val + yy.val) / 24) 1).val + (near (x.val / 24) 1).val = 16 * R.val + J.val then f (24 * r.val + yy.val) x.val else 0)
      = if r = R ∧ near (x.val / 24) 1 = J then f (24 * r.val + yy.val) x.val else 0 := by
    intro r yy x
    rw [row_of, near_self]
    exact if_congr (word_eq _ _ _ _) rfl rfl
  refine (Finset.sum_congr rfl fun r _ => Finset.sum_congr rfl fun yy _ => Finset.sum_congr rfl fun x _ => e r yy x).trans ?_
  refine (Finset.sum_eq_single R ?_ (fun h => absurd (Finset.mem_univ _) h)).trans ?_
  · exact fun r _ hr => Finset.sum_eq_zero fun yy _ => Finset.sum_eq_zero fun x _ => if_neg fun h => hr h.1
  · exact Finset.sum_congr rfl fun yy _ => Finset.sum_congr rfl fun x _ => if_congr (and_iff_right rfl) rfl rfl

/-- Each superpixel has 576 pixels. -/
theorem count (R J : Fin 16) :
    (∑ y : Fin 384, ∑ x : Fin 384, if 16 * (near (y.val / 24) 1).val + (near (x.val / 24) 1).val = 16 * R.val + J.val then (1 : ℝ) else 0) = 576 := by
  rw [regroup_own (fun _ _ => 1)]
  have e : (∑ x : Fin 384, if near (x.val / 24) 1 = J then (1 : ℝ) else 0) = 24 := by
    rw [sum_split (a := 16) (b := 24) (by norm_num)]
    have e : ∀ (r : Fin 16) (xx : Fin 24), (if near ((24 * r.val + xx.val) / 24) 1 = J then (1 : ℝ) else 0) = if r = J then 1 else 0 := by
      intro r xx
      rw [row_of, near_self]
    refine (Finset.sum_congr rfl fun r _ => Finset.sum_congr rfl fun xx _ => e r xx).trans ?_
    simp
  rw [Finset.sum_congr rfl fun _ _ => e]
  norm_num

def own (ix : IVec S147456 32) : IVec S147456x1 32 := broadcastInDim S147456x1 ![0] bcast_S147456_S147456x1_0 ix
theorem own_at (y x : Fin 384) : own ownMap (ix2 (px y x) (0 : Fin 1)) = BitVec.ofNat 32 (16 * (near (y.val / 24) 1).val + (near (x.val / 24) 1).val) := by
  rw [← ownMap_at]
  exact broadcastInDim_apply _ _ _ _ (ix1 (px y x)) (by intro a; match a with | ⟨0, _⟩ => rfl)
/-- The superpixel of each pixel, as a number. -/
def home (q : Fin 147456) : ℕ := (own ownMap (ix2 q (0 : Fin 1))).toNat
theorem home_px (y x : Fin 384) : home (px y x) = 16 * (near (y.val / 24) 1).val + (near (x.val / 24) 1).val := by
  unfold home
  rw [own_at, BitVec.toNat_ofNat]
  omega
theorem home_lt (q : Fin 147456) : home q < 256 := by
  have e : q = px ⟨q.val / 384, by omega⟩ ⟨q.val % 384, by omega⟩ := Fin.ext (by show q.val = 384 * (q.val / 384) + q.val % 384; omega)
  rw [e, home_px]
  omega
theorem home_word (q : Fin 147456) : own ownMap (ix2 q (0 : Fin 1)) = BitVec.ofNat 32 (home q) := by unfold home; simp

/-- The first sums and the numbers of pixels. -/
def firstSums (p : FVec Ideal S147456x4x5 .f32) : FVec Ideal S256x4x5 .f32 :=
  Host.scatterAdd scatter_S256x4x5_S147456x1_S147456x4x5_12_0_0_1 (broadcastInDim S256x4x5 ![] bcast_S_S256x4x5 (constant S_ .f32 0x00000000#32)) (own ownMap) p
def counts : FVec Ideal S256 .f32 :=
  Host.scatterAdd scatter_S256_S147456x1_S147456_n_0_0_1 (broadcastInDim S256 ![] bcast_S_S256 (constant S_ .f32 0x00000000#32)) (own ownMap) (broadcastInDim S147456 ![] bcast_S_S147456 (constant S_ .f32 0x3F800000#32))
def spread (v : FVec Ideal S256 .f32) : FVec Ideal S256x4x5 .f32 :=
  broadcastInDim S256x4x5 ![0, 1, 2] bcast_S256x1x1_S256x4x5_0_1_2 (broadcastInDim S256x1x1 ![0] bcast_S256_S256x1x1_0 (maximumf v (broadcastInDim S256 ![] bcast_S_S256 (constant S_ .f32 0x3F800000#32))))
theorem first_eq (p : FVec Ideal S147456x4x5 .f32) : firstMeans p = Host.divf (firstSums p) (spread counts) := rfl

theorem counts_at (R J : Fin 16) : counts (ix1 (⟨16 * R.val + J.val, by omega⟩ : Fin 256)) = ((576 : ℝ) : EReal) := by
  refine (sum1 (own ownMap) home home_lt home_word _ _ _ _).trans ?_
  rw [broadcast_fill, zero_bits, zero_add, sum_px, ← count R J]
  simp only [← Softmax.coe_sum]
  refine Finset.sum_congr rfl fun y _ => Finset.sum_congr rfl fun x _ => ?_
  rw [home_px, broadcast_fill, one_bits]
  split <;> rfl
theorem max_at {s : Shape} (u v : FVec Ideal s .f32) (i : s.Idx) (a b : EReal) (ha : u i = a) (hb : v i = b) : maximumf u v i = max a b := by
  subst ha; subst hb; rfl
theorem spread_at (R J : Fin 16) (b : Fin 4) (ch : Fin 5) : spread counts (ix3 (⟨16 * R.val + J.val, by omega⟩ : Fin 256) b ch) = ((576 : ℝ) : EReal) := by
  refine (broadcastInDim_apply _ _ _ _ (ix3 (⟨16 * R.val + J.val, by omega⟩ : Fin 256) (0 : Fin 1) (0 : Fin 1)) (by intro a; match a with | ⟨0, _⟩ => rfl | ⟨1, _⟩ => rfl | ⟨2, _⟩ => rfl)).trans ?_
  refine (broadcastInDim_apply _ _ _ _ (ix1 (⟨16 * R.val + J.val, by omega⟩ : Fin 256)) (by intro a; match a with | ⟨0, _⟩ => rfl)).trans ?_
  refine (max_at _ _ _ _ 1 (counts_at R J) (by rw [broadcast_fill]; exact one_bits)).trans (max_eq_left ?_)
  exact_mod_cast (by norm_num : (1 : ℝ) ≤ 576)
theorem firstSums_at {X : Fin 4 → Fin 5 → ℕ → ℕ → ℝ} (p : FVec Ideal S147456x4x5 .f32) (hp : IsPix X p) (R J : Fin 16) (b : Fin 4) (ch : Fin 5) :
    firstSums p (ix3 (⟨16 * R.val + J.val, by omega⟩ : Fin 256) b ch) = ((isum X R.val J b ch : ℝ) : EReal) := by
  refine (sum3 (own ownMap) home home_lt home_word _ _ _ _ _ _).trans ?_
  rw [broadcast_fill, zero_bits, zero_add, sum_px]
  have e := regroup_own (fun y x => X b ch y x) R J
  unfold isum
  rw [← e]
  simp only [← Softmax.coe_sum]
  refine Finset.sum_congr rfl fun y _ => Finset.sum_congr rfl fun x _ => ?_
  rw [home_px, hp]
  split <;> rfl
theorem first_means {X : Fin 4 → Fin 5 → ℕ → ℕ → ℝ} (p : FVec Ideal S147456x4x5 .f32) (hp : IsPix X p) : IsMeans (init X) (firstMeans p) := by
  intro R J b ch
  rw [first_eq, div_at, firstSums_at p hp, spread_at, Ideal.div_coe (by norm_num : (576 : ℝ) ≠ 0), ← EReal.coe_mul]
  refine congrArg Real.toEReal ?_
  unfold init
  exact mul_one_div _ _

/-! ## The loop -/

section
variable (m : (ℓ : Loc nD τ sig) → Buf (Elt Ideal) ℓ) (c : Dev nD) (X : Fin 4 → Fin 5 → ℕ → ℕ → ℝ)
  (hX : ∀ (b : Fin 4) (ch : Fin 5) (y x : Fin 384), m ((c.tc : Thread nD τ).loc main_arg0) (ix4 b ch y x) = ((X b ch y.val x.val : ℝ) : EReal))
include hX

theorem at_entry : At X (init X) (E0 m c) := by
  have hp : IsPix X (pixMap (m ((c.tc : Thread nD τ).loc main_arg0))) := fun y x b ch => (pixMap_at _ y x b ch).trans (hX b ch y x)
  refine ⟨entry0 m c, ?_, entry2 m c, ?_⟩
  · rw [entry1 m c]; exact hp
  · rw [entry5 m c]; exact first_means _ hp

theorem at_trip : ∀ k, At X (means X eps k) (STEP^[k] (E0 m c))
  | 0 => at_entry m c X hX
  | k + 1 => by
    rw [Function.iterate_succ_apply']
    exact at_step (at_trip k)

/-- The means the loop ends with. -/
theorem end_means (R J : Fin 16) (b : Fin 4) (ch : Fin 5) :
    (after condOps (atK m 5 c) (Proc.devRef .tc main_v70_5) : FVec Ideal S256x4x5 .f32) (ix3 (⟨16 * R.val + J.val, by omega⟩ : Fin 256) b ch) = ((means X eps 5 R J b ch : ℝ) : EReal) := by
  rw [cond_keeps _ main_v70_5 (by simp [carriedRefs]), atK_agree m c 5 main_v70_5 (by simp [carriedRefs])]
  exact (at_trip m c X hX 5).means R J b ch
/-- The shares it ends with. -/
theorem end_shares (ty tx : Fin 3) (y x : Fin 384) (b : Fin 4) :
    (after condOps (atK m 5 c) (Proc.devRef .tc main_v70_6) : FVec Ideal S9x147456x4 .f32) (ix3 (nb ty tx) (px y x) b) = ((Q X (means X eps 4) b y.val x.val ty tx : ℝ) : EReal) := by
  rw [cond_keeps _ main_v70_6 (by simp [carriedRefs]), atK_agree m c 5 main_v70_6 (by simp [carriedRefs]), Function.iterate_succ_apply', STEP_main_v70_6]
  exact v95_at (at_trip m c X hX 4) ty tx y x b
end

/-! ## The results -/

section
variable (W : Valuation τ sig (Elt Ideal))

theorem tail_shares : (after hostOps0_1 W (Proc.devRef .tc main_v72) : FVec Ideal S4x9x384x384 .f32)
    = shapeCast S4x9x384x384 (transpose S4x9x147456 [2, 0, 1] (W (Proc.devRef .tc main_v70_6) : FVec Ideal S9x147456x4 .f32) transposes_S9x147456x4_S4x9x147456_2_0_1) shapeCasts_S4x9x147456_S4x9x384x384 := by
  after_results
  rfl
theorem tail_means : (after hostOps0_1 W (Proc.devRef .tc main_v73) : FVec Ideal S4x5x256 .f32)
    = transpose S4x5x256 [1, 2, 0] (W (Proc.devRef .tc main_v70_5) : FVec Ideal S256x4x5 .f32) transposes_S256x4x5_S4x5x256_1_2_0 := by
  after_results

theorem tail_shares_at (b : Fin 4) (k : Fin 9) (y x : Fin 384) : (after hostOps0_1 W (Proc.devRef .tc main_v72) : FVec Ideal S4x9x384x384 .f32) (ix4 b k y x)
    = (W (Proc.devRef .tc main_v70_6) : FVec Ideal S9x147456x4 .f32) (ix3 (nb ⟨k.val / 3, by omega⟩ ⟨k.val % 3, by omega⟩) (px y x) b) := by
  have e : k = nb ⟨k.val / 3, by omega⟩ ⟨k.val % 3, by omega⟩ := Fin.ext (by show k.val = 3 * (k.val / 3) + k.val % 3; omega)
  rw [← e]
  refine (congrFun (tail_shares W) _).trans ?_
  refine (shapeCast_apply _ _ _ (ix3 b k (px y x)) ?_).trans ?_
  · rw [Shape.rowMajor_val_three, Shape.rowMajor_val_four]
    show (b.val * 9 + k.val) * 147456 + (384 * y.val + x.val) = ((b.val * 9 + k.val) * 384 + y.val) * 384 + x.val
    omega
  · exact transpose_apply _ _ _ _ (ix3 k (px y x) b) (by intro a; match a with | ⟨0, _⟩ => rfl | ⟨1, _⟩ => rfl | ⟨2, _⟩ => rfl)
theorem tail_means_at (b : Fin 4) (ch : Fin 5) (n : Fin 256) : (after hostOps0_1 W (Proc.devRef .tc main_v73) : FVec Ideal S4x5x256 .f32) (ix3 b ch n)
    = (W (Proc.devRef .tc main_v70_5) : FVec Ideal S256x4x5 .f32) (ix3 (⟨16 * (⟨n.val / 16, by omega⟩ : Fin 16).val + (⟨n.val % 16, by omega⟩ : Fin 16).val, by show 16 * (n.val / 16) + n.val % 16 < 256; omega⟩ : Fin 256) b ch) := by
  have e : n = (⟨16 * (⟨n.val / 16, by omega⟩ : Fin 16).val + (⟨n.val % 16, by omega⟩ : Fin 16).val, by show 16 * (n.val / 16) + n.val % 16 < 256; omega⟩ : Fin 256) :=
    Fin.ext (by show n.val = 16 * (n.val / 16) + n.val % 16; omega)
  rw [← e]
  refine (congrFun (tail_means W) _).trans ?_
  exact transpose_apply _ _ _ _ (ix3 n b ch) (by intro a; match a with | ⟨0, _⟩ => rfl | ⟨1, _⟩ => rfl | ⟨2, _⟩ => rfl)
end

section
variable (m : (ℓ : Loc nD τ sig) → Buf (Elt Ideal) ℓ) (c : Dev nD) (X : Fin 4 → Fin 5 → ℕ → ℕ → ℝ)
  (hX : ∀ (b : Fin 4) (ch : Fin 5) (y x : Fin 384), m ((c.tc : Thread nD τ).loc main_arg0) (ix4 b ch y x) = ((X b ch y.val x.val : ℝ) : EReal))
include hX

theorem final_shares : finalContents condOps preI bodyI postI 5 m c (Proc.devRef .tc main_v72) = weightsOf X := by
  funext j
  have e : j = ix4 (j 0) (j 1) (j 2) (j 3) := by
    funext a
    match a with
    | ⟨0, _⟩ => rfl
    | ⟨1, _⟩ => rfl
    | ⟨2, _⟩ => rfl
    | ⟨3, _⟩ => rfl
  refine (congrArg (after hostOps0_1 (after condOps (atK m 5 c)) (Proc.devRef .tc main_v72)) e).trans ?_
  exact (tail_shares_at _ (j 0) (j 1) (j 2) (j 3)).trans (end_shares m c X hX _ _ (j 2) (j 3) (j 0))
theorem final_means : finalContents condOps preI bodyI postI 5 m c (Proc.devRef .tc main_v73) = meansOf X := by
  funext j
  have e : j = ix3 (j 0) (j 1) (j 2) := by
    funext a
    match a with
    | ⟨0, _⟩ => rfl
    | ⟨1, _⟩ => rfl
    | ⟨2, _⟩ => rfl
  refine (congrArg (after hostOps0_1 (after condOps (atK m 5 c)) (Proc.devRef .tc main_v73)) e).trans ?_
  exact (tail_means_at _ (j 0) (j 1) (j 2)).trans (end_means m c X hX _ _ (j 0) (j 1))
end

/-- The reference runs; its results are the shares and the means of the pixels `X`. -/
theorem result (m : (ℓ : Loc nD τ sig) → Buf (Elt Ideal) ℓ) (ρ : Dev nD → PrngReg) (X : Dev nD → Fin 4 → Fin 5 → ℕ → ℕ → ℝ)
    (hX : ∀ (c : Dev nD) (b : Fin 4) (ch : Fin 5) (y x : Fin 384), m ((c.tc : Thread nD τ).loc main_arg0) (ix4 b ch y x) = ((X c b ch y.val x.val : ℝ) : EReal)) :
    θ_run (defs (F := Ideal)) (onTc (τ := τ) (main (F := Ideal))) ⟨m, fun _ => 0, ρ⟩ (fun r => ∀ c : Dev nD,
      r.2.mem ((c.tc : Thread nD τ).loc main_v72) = weightsOf (X c)
      ∧ r.2.mem ((c.tc : Thread nD τ).loc main_arg0) = m ((c.tc : Thread nD τ).loc main_arg0)
      ∧ r.2.mem ((c.tc : Thread nD τ).loc main_v73) = meansOf (X c)) :=
  (θ_run _ _ _).mono (fun r h c => ⟨(h c main_v72 rfl).trans (final_shares m c (X c) (hX c)), (h c main_arg0 rfl).trans (final_arg m c),
    (h c main_v73 rfl).trans (final_means m c (X c) (hX c))⟩) (run_fold m ρ)

end Cert.ReferenceIdeal.Proof

end
-- ==== Proof.Algebraic.lean ====
/- Where every pixel is finite, the kernel's results are the reference's. -/
module

public import proofs.«01_k».proof.Defs
public import proofs.«01_k».proof.Proof.RefValue

@[expose] public section

set_option maxRecDepth 16384

noncomputable section

namespace Cert.Pre_finite.Proof

open Idealize.ShloMosaic

/-- The facts the precondition states. -/
theorem facts : Cert.Pre_finite.Facts where
  bcast_S_S4x5x384x384 := by decide
  reducesTo_S4x5x384x384_S_d0_1_2_3 := by decide
  h_S_ := by decide

theorem fold_and {α : Type*} (f : α → BitVec 1) : ∀ (L : List α) (i : BitVec 1), L.foldl (fun r a => IntOp.andi r (f a)) i = 1#1 → i = 1#1 ∧ ∀ a ∈ L, f a = 1#1
  | [], i, h => ⟨h, fun _ ha => absurd ha List.not_mem_nil⟩
  | b :: L, i, h => by
    obtain ⟨h1, h2⟩ := fold_and f L _ h
    have h3 : ∀ c d : BitVec 1, IntOp.andi c d = 1#1 → c = 1#1 ∧ d = 1#1 := by decide
    obtain ⟨h4, h5⟩ := h3 _ _ h1
    refine ⟨h4, fun a ha => ?_⟩
    rcases List.mem_cons.mp ha with rfl | ha
    · exact h5
    · exact h2 a ha

/-- Where a whole array's conjunction holds, it holds at each index. -/
theorem all_of_reduce {s t u : Shape} {axes : List (Fin s.rank)} (x : IVec s 1) (init : IVec u 1) (h : s.ReducesTo axes t) (hu : 0 < u.numel) (j : t.Idx) (hj : ∀ i, h.drop i = j)
    (e : Host.reduce IntOp.andi x init h hu j = 1#1) (i : s.Idx) : x i = 1#1 := by
  have h1 := (fold_and (fun n => x (s.rowMajor.symm n)) _ _ e).2 (s.rowMajor i) (List.mem_filter.mpr ⟨List.mem_finRange _, decide_eq_true (hj _)⟩)
  rwa [Equiv.symm_apply_apply] at h1

theorem top_bits : FloatOps.ofBits (F := Ideal) .f32 0x7F800000#32 = (⊤ : EReal) := by
  show Ideal.ofBits .f32 0x7F800000#32 = ⊤
  simp [Ideal.ofBits, Ideal.ieee]

theorem real_of_cmp (x : EReal) (h : Ideal.cmp .olt (max x (-x)) ⊤ = 1#1) : x = ((x.toReal : ℝ) : EReal) := by
  have h1 : max x (-x) < ⊤ := by
    by_contra hn
    simp [Ideal.cmp, hn] at h
  refine (EReal.coe_toReal ?_ ?_).symm
  · rintro rfl
    simp at h1
  · rintro rfl
    simp at h1

/-- Where the pixels are finite. -/
def small (x : FVec Ideal S4x5x384x384 .f32) : IVec S4x5x384x384 1 :=
  cmpf .olt (Host.absf x) (broadcastInDim S4x5x384x384 ![] facts.bcast_S_S4x5x384x384 (constant S_ .f32 0x7F800000#32))

/-- The precondition says that every pixel is a real number. -/
theorem real (x : FVec Ideal S4x5x384x384 .f32) (h : @Cert.Pre_finite.fn facts Ideal _ x = fun _ => 1#1) (i : S4x5x384x384.Idx) : x i = (((x i : EReal).toReal : ℝ) : EReal) := by
  have h1 : Host.reduce IntOp.andi (small x) (constantI S_ 1 1#1) facts.reducesTo_S4x5x384x384_S_d0_1_2_3 facts.h_S_ = fun _ => 1#1 := h
  have h2 := all_of_reduce (small x) _ facts.reducesTo_S4x5x384x384_S_d0_1_2_3 facts.h_S_ ix0 (fun _ => funext fun a => a.elim0) (congrFun h1 ix0) i
  refine real_of_cmp _ ?_
  rw [← top_bits]
  exact h2

end Cert.Pre_finite.Proof

namespace Cert.Proof

open Idealize.ShloMosaic Idealize.SL.Sem
open TcCoe

/-- Where every pixel is finite, the kernel's results are the reference's. -/
theorem algebraic : Cert.algebraic_KernelIdeal_ReferenceIdeal_pre_finite (hKernelIdeal := Cert.KernelIdeal.Gen.facts) (hReferenceIdeal := Cert.ReferenceIdeal.Gen.facts) (hPre_finite := Cert.Pre_finite.Proof.facts) := by
  intro m g m' g' hpre hm
  let x : Dev Cert.KernelIdeal.nD → FVec Ideal Cert.Pre_finite.S4x5x384x384 .f32 := fun c => m ((c.tc : Thread Cert.KernelIdeal.nD Cert.KernelIdeal.τ).loc Cert.KernelIdeal.main_arg0)
  let X : Dev Cert.KernelIdeal.nD → Fin 4 → Fin 5 → ℕ → ℕ → ℝ := fun c b ch y l =>
    if h : y < 384 ∧ l < 384 then (x c (ix4 b ch (⟨y, h.1⟩ : Fin 384) (⟨l, h.2⟩ : Fin 384)) : EReal).toReal else 0
  have hX : ∀ (c : Dev Cert.KernelIdeal.nD) (b : Fin 4) (ch : Fin 5) (y l : Fin 384), x c (ix4 b ch y l) = ((X c b ch y.val l.val : ℝ) : EReal) := by
    intro c b ch y l
    have e : X c b ch y.val l.val = (x c (ix4 b ch y l) : EReal).toReal := dif_pos ⟨y.isLt, l.isLt⟩
    rw [e]
    exact Cert.Pre_finite.Proof.real (x c) (hpre c) _
  refine ⟨fun c => Cert.KernelIdeal.Proof.Value.weightsOf (X c), fun c => x c, fun c => Cert.KernelIdeal.Proof.Value.meansOf (X c), fun c => x c, ?_, ?_⟩
  · exact (θ_run _ _ _).mono (fun r h c => ⟨(h c).1, (h c).2.1, (h c).2.2, (h c).2.1, (h c).2.1⟩) (Cert.KernelIdeal.Proof.Value.result m g X hX)
  · refine (θ_run _ _ _).mono (fun r h c => ⟨(h c).1, (h c).2.1.trans (hm c), (h c).2.2, (h c).2.1.trans (hm c), (h c).2.1⟩)
      (Cert.ReferenceIdeal.Proof.result m' g' X fun c b ch y l => (congrFun (hm c) _).trans (hX c b ch y l))

end Cert.Proof

end
-- ==== Proof.lean ====
/- The proof of the certificate's claim: the frames of the kernel, of its idealization and of the reference, the
   idealization's named constants, and the equality of the kernel's results with the reference's over the extended reals. -/
module

public import proofs.«01_k».proof.Defs
public import proofs.«01_k».proof.Proof.KernelFrame
public import proofs.«01_k».proof.Proof.IdealFrame
public import proofs.«01_k».proof.Proof.RefFrame

public import proofs.«01_k».proof.Proof.Algebraic

@[expose] public section

noncomputable section

namespace Cert.Proof

open Idealize.ShloMosaic Idealize.SL.Sem

/-- Each named constant of the idealized kernel rounds to the word that the kernel has in its place. -/
theorem preserves : Cert.preserves_Kernel_KernelIdeal :=
  ⟨IdealRules.named_const.statement Cert.KernelIdeal.κ "mask" .f32 0xDA0E1BCA#32 _ rfl,
   IdealRules.named_const.statement Cert.KernelIdeal.κ "two_log2e" .f32 0x4038AA3B#32 _ rfl,
   IdealRules.named_const.statement Cert.KernelIdeal.κ "log2e" .f32 0x3FB8AA3B#32 _ rfl⟩

/-- The certificate's claim. -/
theorem claim : Cert.Claim := ⟨Cert.Kernel.Gen.facts, Cert.KernelIdeal.Gen.facts, Cert.ReferenceIdeal.Gen.facts, Cert.Pre_finite.Proof.facts,
  fun m g _ => Cert.Kernel.Proof.frame m g,
  fun m g _ => Cert.KernelIdeal.Proof.frame m g,
  fun m g _ => Cert.KernelIdeal.Proof.frame m g,
  fun m g _ => Cert.ReferenceIdeal.Proof.frame m g,
  fun m g _ => Cert.ReferenceIdeal.Proof.frame m g,
  preserves,
  algebraic⟩

end Cert.Proof

end
